-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite_KernelIdeal [hPre_queries_and_keys_finite_KernelIdeal : Cert.Pre_queries_and_keys_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite_ReferenceIdeal [hPre_queries_and_keys_finite_ReferenceIdeal : Cert.Pre_queries_and_keys_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_queries_and_keys_finite_KernelIdeal [hKernelIdeal : Cert.KernelIdeal.Facts] [hPre_queries_and_keys_finite_KernelIdeal : Cert.Pre_queries_and_keys_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_queries_and_keys_finite_ReferenceIdeal [hReferenceIdeal : Cert.ReferenceIdeal.Facts] [hPre_queries_and_keys_finite_ReferenceIdeal : Cert.Pre_queries_and_keys_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "s" .bf16 0x3DB5#16 (((Real.sqrt 128)⁻¹ : ℝ) : EReal)

def algebraic_KernelIdeal_ReferenceIdeal_pre_queries_and_keys_finite_KernelIdeal [hKernelIdeal : Cert.KernelIdeal.Facts] [hReferenceIdeal : Cert.ReferenceIdeal.Facts] [hPre_queries_and_keys_finite_KernelIdeal : Cert.Pre_queries_and_keys_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![32768, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![32768, 128]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 128]⟩ ⟨2, ![32768, 128]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![32768, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_queries_and_keys_finite_KernelIdeal : Cert.Pre_queries_and_keys_finite_KernelIdeal.Facts) (hPre_queries_and_keys_finite_ReferenceIdeal : Cert.Pre_queries_and_keys_finite_ReferenceIdeal.Facts),
    quiescent_Kernel (hKernel := hKernel)
    ∧ quiescent_KernelIdeal (hKernelIdeal := hKernelIdeal)
    ∧ quiescent_KernelIdeal_pre_queries_and_keys_finite_KernelIdeal (hKernelIdeal := hKernelIdeal) (hPre_queries_and_keys_finite_KernelIdeal := hPre_queries_and_keys_finite_KernelIdeal)
    ∧ quiescent_ReferenceIdeal (hReferenceIdeal := hReferenceIdeal)
    ∧ quiescent_ReferenceIdeal_pre_queries_and_keys_finite_ReferenceIdeal (hReferenceIdeal := hReferenceIdeal) (hPre_queries_and_keys_finite_ReferenceIdeal := hPre_queries_and_keys_finite_ReferenceIdeal)
    ∧ preserves_Kernel_KernelIdeal
    ∧ algebraic_KernelIdeal_ReferenceIdeal_pre_queries_and_keys_finite_KernelIdeal (hKernelIdeal := hKernelIdeal) (hReferenceIdeal := hReferenceIdeal) (hPre_queries_and_keys_finite_KernelIdeal := hPre_queries_and_keys_finite_KernelIdeal)
-- ==== Pre_queries_and_keys_finite_KernelIdeal.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)

variable [Facts]

def fn {F : FTy → Type} [FloatOps F] (main_arg0 : FVec F S1024x128 .bf16) (main_arg1 : FVec F S1024x128 .bf16) (main_arg2 : FVec F S1024x128 .bf16) : IVec S1024x128 1 :=
  let main_v0 : FVec F S1024x128 .bf16 := Host.absf main_arg0
  let main_cst : FVec F S_ .bf16 := constant S_ .bf16 0x7F80#16
  let main_v1 : FVec F S1024x128 .bf16 := broadcastInDim S1024x128 ![] bcast_S_S1024x128 main_cst
  let main_v2 : IVec S1024x128 1 := cmpf .olt main_v0 main_v1
  let main_v3 : FVec F S1024x128 .bf16 := Host.absf main_arg1
  let main_cst_0 : FVec F S_ .bf16 := constant S_ .bf16 0x7F80#16
  let main_v4 : FVec F S1024x128 .bf16 := broadcastInDim S1024x128 ![] bcast_S_S1024x128 main_cst_0
  let main_v5 : IVec S1024x128 1 := cmpf .olt main_v3 main_v4
  let main_v6 : IVec S1024x128 1 := andi main_v2 main_v5
  main_v6
-- ==== Pre_queries_and_keys_finite_ReferenceIdeal.lean ====
abbrev S32768x128 : Shape := ⟨2, ![32768, 128]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : FVec F S32768x128 .bf16) (main_arg1 : FVec F S32768x128 .bf16) (main_arg2 : FVec F S32768x128 .bf16) : IVec S32768x128 1 :=
  let main_v0 : FVec F S32768x128 .bf16 := Host.absf main_arg0
  let main_cst : FVec F S_ .bf16 := constant S_ .bf16 0x7F80#16
  let main_v1 : FVec F S32768x128 .bf16 := broadcastInDim S32768x128 ![] bcast_S_S32768x128 main_cst
  let main_v2 : IVec S32768x128 1 := cmpf .olt main_v0 main_v1
  let main_v3 : FVec F S32768x128 .bf16 := Host.absf main_arg1
  let main_cst_0 : FVec F S_ .bf16 := constant S_ .bf16 0x7F80#16
  let main_v4 : FVec F S32768x128 .bf16 := broadcastInDim S32768x128 ![] bcast_S_S32768x128 main_cst_0
  let main_v5 : IVec S32768x128 1 := cmpf .olt main_v3 main_v4
  let main_v6 : IVec S32768x128 1 := andi main_v2 main_v5
  main_v6
-- ==== Kernel.lean ====
abbrev S1024x128 : Shape := ⟨2, ![1024, 128]⟩
abbrev S2x2048x128 : Shape := ⟨3, ![2, 2048, 128]⟩
abbrev S2 : Shape := ⟨1, ![2]⟩
abbrev S2x8x128 : Shape := ⟨3, ![2, 8, 128]⟩
abbrev S_ : Shape := ⟨0, ![]⟩
abbrev S1x1024x128 : Shape := ⟨3, ![1, 1024, 128]⟩
abbrev S1024x1 : Shape := ⟨2, ![1024, 1]⟩
abbrev S1024x1024 : Shape := ⟨2, ![1024, 1024]⟩
abbrev S1024 : Shape := ⟨1, ![1024]⟩
abbrev S1 : Shape := ⟨1, ![1]⟩
abbrev S1x2048x128 : Shape := ⟨3, ![1, 2048, 128]⟩
abbrev S2048x128 : Shape := ⟨2, ![2048, 128]⟩
abbrev S1x8x128 : Shape := ⟨3, ![1, 8, 128]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S1024x128, .bf16⟩
  | .hbm, ⟨1, _⟩ => ⟨S1024x128, .bf16⟩
  | .hbm, ⟨2, _⟩ => ⟨S1024x128, .bf16⟩
  | .hbm, ⟨3, _⟩ => ⟨S1024x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .f32⟩
  | .local _ .vmem, ⟨4, _⟩ => ⟨S2x2048x128, .bf16⟩
  | .local _ .vmem, ⟨5, _⟩ => ⟨S2x8x128, .f32⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_44 : BitVec 32 := 1#32
  let v69 : BitVec 32 := Scalar.muli v24 c1_i32_44
  let v70 : BitVec 32 := Scalar.addi c0_i32_45 v69
  v70.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_73 : BitVec 32 := 1#32
  let v93 : BitVec 32 := Scalar.muli v13 c1_i32_73
  let v94 : BitVec 32 := Scalar.addi c0_i32_74 v93
  v94.toNat
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_102 : BitVec 32 := 1#32
  let v133 : BitVec 32 := Scalar.muli v24 c1_i32_102
  let v134 : BitVec 32 := Scalar.addi c0_i32_103 v133
  v134.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_131 : BitVec 32 := 1#32
  let v157 : BitVec 32 := Scalar.muli v13 c1_i32_131
  let v158 : BitVec 32 := Scalar.addi c0_i32_132 v157
  v158.toNat
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_161 : BitVec 32 := 1#32
  let v197 : BitVec 32 := Scalar.muli v24 c1_i32_161
  let v198 : BitVec 32 := Scalar.addi c0_i32_162 v197
  v198.toNat
def k0_dev8 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_199 : BitVec 32 := 1#32
  let v227 : BitVec 32 := Scalar.muli v13 c1_i32_199
  let v228 : BitVec 32 := Scalar.addi c0_i32_200 v227
  v228.toNat
def k0_dev9 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_229 : BitVec 32 := 1#32
  let v267 : BitVec 32 := Scalar.muli v24 c1_i32_229
  let v268 : BitVec 32 := Scalar.addi c0_i32_230 v267
  v268.toNat
def k0_dev10 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_267 : BitVec 32 := 1#32
  let v297 : BitVec 32 := Scalar.muli v13 c1_i32_267
  let v298 : BitVec 32 := Scalar.addi c0_i32_268 v297
  v298.toNat
def k0_dev11 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_297 : BitVec 32 := 1#32
  let v337 : BitVec 32 := Scalar.muli v24 c1_i32_297
  let v338 : BitVec 32 := Scalar.addi c0_i32_298 v337
  v338.toNat
def k0_dev12 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_335 : BitVec 32 := 1#32
  let v367 : BitVec 32 := Scalar.muli v13 c1_i32_335
  let v368 : BitVec 32 := Scalar.addi c0_i32_336 v367
  v368.toNat
def k0_dev13 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_365 : BitVec 32 := 1#32
  let v407 : BitVec 32 := Scalar.muli v24 c1_i32_365
  let v408 : BitVec 32 := Scalar.addi c0_i32_366 v407
  v408.toNat
def k0_dev14 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_403 : BitVec 32 := 1#32
  let v437 : BitVec 32 := Scalar.muli v13 c1_i32_403
  let v438 : BitVec 32 := Scalar.addi c0_i32_404 v437
  v438.toNat
def k0_dev15 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_433 : BitVec 32 := 1#32
  let v477 : BitVec 32 := Scalar.muli v24 c1_i32_433
  let v478 : BitVec 32 := Scalar.addi c0_i32_434 v477
  v478.toNat
def k0_dev16 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_471 : BitVec 32 := 1#32
  let v507 : BitVec 32 := Scalar.muli v13 c1_i32_471
  let v508 : BitVec 32 := Scalar.addi c0_i32_472 v507
  v508.toNat
def k0_dev17 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_501 : BitVec 32 := 1#32
  let v547 : BitVec 32 := Scalar.muli v24 c1_i32_501
  let v548 : BitVec 32 := Scalar.addi c0_i32_502 v547
  v548.toNat
def k0_dev18 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_539 : BitVec 32 := 1#32
  let v577 : BitVec 32 := Scalar.muli v13 c1_i32_539
  let v578 : BitVec 32 := Scalar.addi c0_i32_540 v577
  v578.toNat
def k0_dev19 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_569 : BitVec 32 := 1#32
  let v617 : BitVec 32 := Scalar.muli v24 c1_i32_569
  let v618 : BitVec 32 := Scalar.addi c0_i32_570 v617
  v618.toNat
def k0_dev20 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_607 : BitVec 32 := 1#32
  let v647 : BitVec 32 := Scalar.muli v13 c1_i32_607
  let v648 : BitVec 32 := Scalar.addi c0_i32_608 v647
  v648.toNat
def k0_dev21 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_637 : BitVec 32 := 1#32
  let v687 : BitVec 32 := Scalar.muli v24 c1_i32_637
  let v688 : BitVec 32 := Scalar.addi c0_i32_638 v687
  v688.toNat
def k0_dev22 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_675 : BitVec 32 := 1#32
  let v717 : BitVec 32 := Scalar.muli v13 c1_i32_675
  let v718 : BitVec 32 := Scalar.addi c0_i32_676 v717
  v718.toNat
def k0_dev23 (d0 : Dev nD) : Nat :=
  let c0_i32_706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_705 : BitVec 32 := 1#32
  let v757 : BitVec 32 := Scalar.muli v24 c1_i32_705
  let v758 : BitVec 32 := Scalar.addi c0_i32_706 v757
  v758.toNat
def k0_dev24 (d0 : Dev nD) : Nat :=
  let c0_i32_744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_743 : BitVec 32 := 1#32
  let v787 : BitVec 32 := Scalar.muli v13 c1_i32_743
  let v788 : BitVec 32 := Scalar.addi c0_i32_744 v787
  v788.toNat
def k0_dev25 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_773 : BitVec 32 := 1#32
  let v827 : BitVec 32 := Scalar.muli v24 c1_i32_773
  let v828 : BitVec 32 := Scalar.addi c0_i32_774 v827
  v828.toNat
def k0_dev26 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_811 : BitVec 32 := 1#32
  let v857 : BitVec 32 := Scalar.muli v13 c1_i32_811
  let v858 : BitVec 32 := Scalar.addi c0_i32_812 v857
  v858.toNat
def k0_dev27 (d0 : Dev nD) : Nat :=
  let c0_i32_842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_841 : BitVec 32 := 1#32
  let v897 : BitVec 32 := Scalar.muli v24 c1_i32_841
  let v898 : BitVec 32 := Scalar.addi c0_i32_842 v897
  v898.toNat
def k0_dev28 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_879 : BitVec 32 := 1#32
  let v927 : BitVec 32 := Scalar.muli v13 c1_i32_879
  let v928 : BitVec 32 := Scalar.addi c0_i32_880 v927
  v928.toNat
def k0_dev29 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_909 : BitVec 32 := 1#32
  let v967 : BitVec 32 := Scalar.muli v24 c1_i32_909
  let v968 : BitVec 32 := Scalar.addi c0_i32_910 v967
  v968.toNat
def k0_dev30 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_947 : BitVec 32 := 1#32
  let v997 : BitVec 32 := Scalar.muli v13 c1_i32_947
  let v998 : BitVec 32 := Scalar.addi c0_i32_948 v997
  v998.toNat
def k0_dev31 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_977 : BitVec 32 := 1#32
  let v1037 : BitVec 32 := Scalar.muli v24 c1_i32_977
  let v1038 : BitVec 32 := Scalar.addi c0_i32_978 v1037
  v1038.toNat
def k0_dev32 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1015 : BitVec 32 := 1#32
  let v1067 : BitVec 32 := Scalar.muli v13 c1_i32_1015
  let v1068 : BitVec 32 := Scalar.addi c0_i32_1016 v1067
  v1068.toNat
def k0_dev33 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1045 : BitVec 32 := 1#32
  let v1107 : BitVec 32 := Scalar.muli v24 c1_i32_1045
  let v1108 : BitVec 32 := Scalar.addi c0_i32_1046 v1107
  v1108.toNat
def k0_dev34 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1083 : BitVec 32 := 1#32
  let v1137 : BitVec 32 := Scalar.muli v13 c1_i32_1083
  let v1138 : BitVec 32 := Scalar.addi c0_i32_1084 v1137
  v1138.toNat
def k0_dev35 (d0 : Dev nD) : Nat :=
  let c0_i32_1114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1113 : BitVec 32 := 1#32
  let v1177 : BitVec 32 := Scalar.muli v24 c1_i32_1113
  let v1178 : BitVec 32 := Scalar.addi c0_i32_1114 v1177
  v1178.toNat
def k0_dev36 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1151 : BitVec 32 := 1#32
  let v1207 : BitVec 32 := Scalar.muli v13 c1_i32_1151
  let v1208 : BitVec 32 := Scalar.addi c0_i32_1152 v1207
  v1208.toNat
def k0_dev37 (d0 : Dev nD) : Nat :=
  let c0_i32_1182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1181 : BitVec 32 := 1#32
  let v1247 : BitVec 32 := Scalar.muli v24 c1_i32_1181
  let v1248 : BitVec 32 := Scalar.addi c0_i32_1182 v1247
  v1248.toNat
def k0_dev38 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1219 : BitVec 32 := 1#32
  let v1277 : BitVec 32 := Scalar.muli v13 c1_i32_1219
  let v1278 : BitVec 32 := Scalar.addi c0_i32_1220 v1277
  v1278.toNat
def k0_dev39 (d0 : Dev nD) : Nat :=
  let c0_i32_1250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1249 : BitVec 32 := 1#32
  let v1317 : BitVec 32 := Scalar.muli v24 c1_i32_1249
  let v1318 : BitVec 32 := Scalar.addi c0_i32_1250 v1317
  v1318.toNat
def k0_dev40 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1287 : BitVec 32 := 1#32
  let v1347 : BitVec 32 := Scalar.muli v13 c1_i32_1287
  let v1348 : BitVec 32 := Scalar.addi c0_i32_1288 v1347
  v1348.toNat
def k0_dev41 (d0 : Dev nD) : Nat :=
  let c0_i32_1318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1317 : BitVec 32 := 1#32
  let v1387 : BitVec 32 := Scalar.muli v24 c1_i32_1317
  let v1388 : BitVec 32 := Scalar.addi c0_i32_1318 v1387
  v1388.toNat
def k0_dev42 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1355 : BitVec 32 := 1#32
  let v1417 : BitVec 32 := Scalar.muli v13 c1_i32_1355
  let v1418 : BitVec 32 := Scalar.addi c0_i32_1356 v1417
  v1418.toNat
def k0_dev43 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1385 : BitVec 32 := 1#32
  let v1457 : BitVec 32 := Scalar.muli v24 c1_i32_1385
  let v1458 : BitVec 32 := Scalar.addi c0_i32_1386 v1457
  v1458.toNat
def k0_dev44 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1423 : BitVec 32 := 1#32
  let v1487 : BitVec 32 := Scalar.muli v13 c1_i32_1423
  let v1488 : BitVec 32 := Scalar.addi c0_i32_1424 v1487
  v1488.toNat
def k0_dev45 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1453 : BitVec 32 := 1#32
  let v1527 : BitVec 32 := Scalar.muli v24 c1_i32_1453
  let v1528 : BitVec 32 := Scalar.addi c0_i32_1454 v1527
  v1528.toNat
def k0_dev46 (d0 : Dev nD) : Nat :=
  let c0_i32_1492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1491 : BitVec 32 := 1#32
  let v1557 : BitVec 32 := Scalar.muli v13 c1_i32_1491
  let v1558 : BitVec 32 := Scalar.addi c0_i32_1492 v1557
  v1558.toNat
def k0_dev47 (d0 : Dev nD) : Nat :=
  let c0_i32_1522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1521 : BitVec 32 := 1#32
  let v1597 : BitVec 32 := Scalar.muli v24 c1_i32_1521
  let v1598 : BitVec 32 := Scalar.addi c0_i32_1522 v1597
  v1598.toNat
def k0_dev48 (d0 : Dev nD) : Nat :=
  let c0_i32_1560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1559 : BitVec 32 := 1#32
  let v1627 : BitVec 32 := Scalar.muli v13 c1_i32_1559
  let v1628 : BitVec 32 := Scalar.addi c0_i32_1560 v1627
  v1628.toNat
def k0_dev49 (d0 : Dev nD) : Nat :=
  let c0_i32_1590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1589 : BitVec 32 := 1#32
  let v1667 : BitVec 32 := Scalar.muli v24 c1_i32_1589
  let v1668 : BitVec 32 := Scalar.addi c0_i32_1590 v1667
  v1668.toNat
def k0_dev50 (d0 : Dev nD) : Nat :=
  let c0_i32_1628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1627 : BitVec 32 := 1#32
  let v1697 : BitVec 32 := Scalar.muli v13 c1_i32_1627
  let v1698 : BitVec 32 := Scalar.addi c0_i32_1628 v1697
  v1698.toNat
def k0_dev51 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1657 : BitVec 32 := 1#32
  let v1737 : BitVec 32 := Scalar.muli v24 c1_i32_1657
  let v1738 : BitVec 32 := Scalar.addi c0_i32_1658 v1737
  v1738.toNat
def k0_dev52 (d0 : Dev nD) : Nat :=
  let c0_i32_1696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1695 : BitVec 32 := 1#32
  let v1767 : BitVec 32 := Scalar.muli v13 c1_i32_1695
  let v1768 : BitVec 32 := Scalar.addi c0_i32_1696 v1767
  v1768.toNat
def k0_dev53 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1725 : BitVec 32 := 1#32
  let v1807 : BitVec 32 := Scalar.muli v24 c1_i32_1725
  let v1808 : BitVec 32 := Scalar.addi c0_i32_1726 v1807
  v1808.toNat
def k0_dev54 (d0 : Dev nD) : Nat :=
  let c0_i32_1764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1763 : BitVec 32 := 1#32
  let v1837 : BitVec 32 := Scalar.muli v13 c1_i32_1763
  let v1838 : BitVec 32 := Scalar.addi c0_i32_1764 v1837
  v1838.toNat
def k0_dev55 (d0 : Dev nD) : Nat :=
  let c0_i32_1794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1793 : BitVec 32 := 1#32
  let v1877 : BitVec 32 := Scalar.muli v24 c1_i32_1793
  let v1878 : BitVec 32 := Scalar.addi c0_i32_1794 v1877
  v1878.toNat
def k0_dev56 (d0 : Dev nD) : Nat :=
  let c0_i32_1832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1831 : BitVec 32 := 1#32
  let v1907 : BitVec 32 := Scalar.muli v13 c1_i32_1831
  let v1908 : BitVec 32 := Scalar.addi c0_i32_1832 v1907
  v1908.toNat
def k0_dev57 (d0 : Dev nD) : Nat :=
  let c0_i32_1862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1861 : BitVec 32 := 1#32
  let v1947 : BitVec 32 := Scalar.muli v24 c1_i32_1861
  let v1948 : BitVec 32 := Scalar.addi c0_i32_1862 v1947
  v1948.toNat
def k0_dev58 (d0 : Dev nD) : Nat :=
  let c0_i32_1900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1899 : BitVec 32 := 1#32
  let v1977 : BitVec 32 := Scalar.muli v13 c1_i32_1899
  let v1978 : BitVec 32 := Scalar.addi c0_i32_1900 v1977
  v1978.toNat
def k0_dev59 (d0 : Dev nD) : Nat :=
  let c0_i32_1930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1929 : BitVec 32 := 1#32
  let v2017 : BitVec 32 := Scalar.muli v24 c1_i32_1929
  let v2018 : BitVec 32 := Scalar.addi c0_i32_1930 v2017
  v2018.toNat
def k0_dev60 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1967 : BitVec 32 := 1#32
  let v2047 : BitVec 32 := Scalar.muli v13 c1_i32_1967
  let v2048 : BitVec 32 := Scalar.addi c0_i32_1968 v2047
  v2048.toNat
def k0_dev61 (d0 : Dev nD) : Nat :=
  let c0_i32_1998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1997 : BitVec 32 := 1#32
  let v2087 : BitVec 32 := Scalar.muli v24 c1_i32_1997
  let v2088 : BitVec 32 := Scalar.addi c0_i32_1998 v2087
  v2088.toNat
def k0_dev62 (d0 : Dev nD) : Nat :=
  let c0_i32_2036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2035 : BitVec 32 := 1#32
  let v2117 : BitVec 32 := Scalar.muli v13 c1_i32_2035
  let v2118 : BitVec 32 := Scalar.addi c0_i32_2036 v2117
  v2118.toNat
def k0_dev63 (d0 : Dev nD) : Nat :=
  let c0_i32_2066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2065 : BitVec 32 := 1#32
  let v2157 : BitVec 32 := Scalar.muli v24 c1_i32_2065
  let v2158 : BitVec 32 := Scalar.addi c0_i32_2066 v2157
  v2158.toNat
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S32768x128 : Shape := ⟨2, ![32768, 128]⟩
abbrev S32768x32768 : Shape := ⟨2, ![32768, 32768]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x128, .bf16⟩
  | .hbm, ⟨1, _⟩ => ⟨S32768x128, .bf16⟩
  | .hbm, ⟨2, _⟩ => ⟨S32768x128, .bf16⟩
  | .hbm, ⟨3, _⟩ => ⟨S32768x32768, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32768x32768, .f32⟩
  | .hbm, ⟨8, _⟩ => ⟨S32768x32768, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S32768x32768, .f32⟩
  | .hbm, ⟨13, _⟩ => ⟨S32768x32768, .f32⟩
  | .hbm, ⟨14, _⟩ => ⟨S32768x32768, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x32768, .f32⟩
  | .hbm, ⟨19, _⟩ => ⟨S32768x32768, .f32⟩
  | .hbm, ⟨20, _⟩ => ⟨S32768x128, .f32⟩
  | .hbm, ⟨21, _⟩ => ⟨S32768x128, .f32⟩
  | _, _ => ⟨S32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Lockstep.lean ====
module

public import Idealize.ShloMosaic.Lib.Rel.Run
public import Idealize.ShloMosaic.Lib.Rel.AtRef
public import Idealize.ShloMosaic.Lib.Rel.Pipeline

/-! Two programs that differ in the source of some transfers. Where a transfer falls on a place at which any
    two words are related, what it reads does not matter: two programs that make the same effects, save that
    such a transfer may be read from elsewhere, run in step, and what is read off the other places carries
    over from one to the other. -/

@[expose] public section

namespace Cert.Lockstep

open Idealize.ShloMosaic Idealize.SL.Sem Idealize.ShloMosaic.Rel

variable {nD : Nat} {τ : Topo} {sig : RefSig} {Val : EltTy → Type} {Λ : Labels}
variable (W : WordRel nD τ sig Val)

/-- Any two words are related here. -/
def Blind (ℓ : Loc nD τ sig) : Prop := ∀ e x y, W.Z ℓ e x y

/-- Related effects, or two transfers to one blind place with sources of their own. -/
inductive Eff (c : Thread nD τ) :
    {β : Type} → TpuEff nD τ sig Val Λ c.2 β → TpuEff nD τ sig Val Λ c.2 β → (β → β → Prop) → Prop
  | same {β : Type} {e e' : TpuEff nD τ sig Val Λ c.2 β} {T : β → β → Prop} : EffRel W c e e' T → Eff c e e' T
  | send {sp sp' : Space} {s₀ : Shape} {e₀ : EltTy} {s : Shape} {e : EltTy} (a b : Memref sig c.2.kind sp s₀ e₀)
      (tgt : DmaTarget nD τ sig c.2 sp' s e) (via : ReadAs Val s₀ e₀ s e) (sem : SemLoc sig)
      (ha : a.view.WordExact) (hb : b.view.WordExact) (hdst : tgt.view.WordExact) (hsem : tgt.Typed sp sem)
      (hx : Blind W ((tgt.viewAt c.1).loc (tgt.thread c.1))) :
      Eff c (.enqueueDmaAs a tgt via sem ha hdst hsem) (.enqueueDmaAs b tgt via sem hb hdst hsem) Eq

/-- Programs that make such effects in step. -/
inductive Pro (c : Thread nD τ) {α : Type} (S : α → α → Prop) :
    Prog (TpuEff nD τ sig Val Λ c.2) α → Prog (TpuEff nD τ sig Val Λ c.2) α → Prop
  | done {a a' : α} : S a a' → Pro c S (.ret a) (.ret a')
  | act {β : Type} {e e' : TpuEff nD τ sig Val Λ c.2 β} {T : β → β → Prop} {k k' : β → Prog (TpuEff nD τ sig Val Λ c.2) α} :
      Eff W c e e' T → (∀ x x', T x x' → Pro c S (k x) (k' x')) → Pro c S (.op e k) (.op e' k')
  | enter (ℓ : Λ.Label) (a : Λ.Args ℓ) {k k' : Λ.Result ℓ → Prog (TpuEff nD τ sig Val Λ c.2) α} :
      (∀ x, Pro c S (k x) (k' x)) → Pro c S (.op (.call ℓ a) k) (.op (.call ℓ a) k')
  | region (ℓ : Λ.Label) (a : Λ.Args ℓ) {k k' : Λ.Result ℓ → Prog (TpuEff nD τ sig Val Λ c.2) α} :
      (∀ x, Pro c S (k x) (k' x)) → Pro c S (.op (.customCall ℓ a) k) (.op (.customCall ℓ a) k')

def Tab (D D' : Defs nD τ sig Val Λ) : Prop := ∀ (c : Thread nD τ) (ℓ : Λ.Label) (a : Λ.Args ℓ), Pro W c Eq (D c.2 ℓ a) (D' c.2 ℓ a)

/-- Transfers in flight: one transfer from an exact place, or two that differ in their source and in what they
    have read, bound for a blind place. -/
inductive Fly : Dma nD τ sig Val → Dma nD τ sig Val → Prop
  | same (d : Dma nD τ sig Val) : W.Exact d.src → Fly d d
  | apart {sh : Shape} {e : EltTy} {c c' : Thread nD τ} {sp sp' : Space} {s₀ s₀' : Shape} {e₀ e₀' : EltTy}
      (v : View sig c.2.kind sp s₀ e₀) (v' : View sig c'.2.kind sp' s₀' e₀') (via : ReadAs Val s₀ e₀ sh e)
      (via' : ReadAs Val s₀' e₀' sh e) (dc : Thread nD τ) {ds : Space} (dv : View sig dc.2.kind ds sh e)
      (ss : Option (GSem nD τ sig)) (dsem : GSem nD τ sig) (b b' : sh.Idx → Val e) (r w : Finset sh.Idx) (p q n : Nat)
      (hx : Blind W (dv.loc dc)) :
      Fly ⟨sh, e, c, sp, s₀, e₀, v, via, dc, ds, dv, ss, dsem, b, r, w, p, q, n⟩
        ⟨sh, e, c', sp', s₀', e₀', v', via', dc, ds, dv, ss, dsem, b', r, w, p, q, n⟩

/-- The state with other transfers in flight. -/
abbrev put (s : Phys nD τ sig Val) (L : List (Dma nD τ sig Val)) : Phys nD τ sig Val := { s with dmas := L }

/-- Interpreted states: related but for their transfers, and these in step. -/
structure Sta (s s' : Phys nD τ sig Val) : Prop where
  rest : PhysRel W (put s []) (put s' [])
  fly : List.Forall₂ (Fly W) s.dmas s'.dmas

structure Run (s s' : RunSt nD τ sig Val Λ) : Prop where
  sta : Sta W s.toPhys s'.toPhys
  pro : ∀ c, Option.Rel (Pro W c Eq) (s.prog c) (s'.prog c)

variable {W}

/-! ## Programs -/
section Prog
variable {c : Thread nD τ} {α β : Type}

theorem Pro.bind {S : α → α → Prop} {T : β → β → Prop} {p p' : Prog (TpuEff nD τ sig Val Λ c.2) α}
    {k k' : α → Prog (TpuEff nD τ sig Val Λ c.2) β} (hp : Pro W c S p p') (hk : ∀ a a', S a a' → Pro W c T (k a) (k' a')) :
    Pro W c T (p >>= k) (p' >>= k') := by
  induction hp with
  | done h => exact hk _ _ h
  | act he _ ih => exact .act he fun x x' hx => ih x x' hx
  | enter ℓ a _ ih => exact .enter ℓ a ih
  | region ℓ a _ ih => exact .region ℓ a ih

theorem Pro.of {S : α → α → Prop} {p p' : Prog (TpuEff nD τ sig Val Λ c.2) α} (hp : ProgRel W c S p p') : Pro W c S p p' := by
  induction hp with
  | ret h => exact .done h
  | op he _ ih => exact .act (.same he) ih
  | call ℓ a _ ih => exact .enter ℓ a ih
  | customCall ℓ a _ ih => exact .region ℓ a ih

theorem Eff.swap {e e' : TpuEff nD τ sig Val Λ c.2 β} {T : β → β → Prop} (he : Eff W c e e' T) :
    ∃ T', Eff W c e' e T' ∧ ∀ x x', T' x x' → T x' x := by
  cases he with
  | same h => obtain ⟨T', h', hT⟩ := h.symm; exact ⟨T', .same h', hT⟩
  | send a b tgt via sem ha hb hd hs hx => exact ⟨_, .send b a tgt via sem hb ha hd hs hx, fun _ _ h => h.symm⟩

theorem Pro.swap {p p' : Prog (TpuEff nD τ sig Val Λ c.2) α} (hp : Pro W c Eq p p') : Pro W c Eq p' p := by
  induction hp with
  | done h => exact .done h.symm
  | act he _ ih =>
    obtain ⟨T', he', hT⟩ := he.swap
    exact .act he' fun x x' hx => ih _ _ (hT _ _ hx)
  | enter ℓ a _ ih => exact .enter ℓ a ih
  | region ℓ a _ ih => exact .region ℓ a ih

theorem Eff.inl {Λ' : Labels} {e e' : TpuEff nD τ sig Val Λ c.2 β} {T : β → β → Prop} (he : Eff W c e e' T) :
    Eff W c (e.inl (Λ' := Λ')) (e'.inl (Λ' := Λ')) T := by
  cases he with
  | same h => exact .same h.inl
  | send a b tgt via sem ha hb hd hs hx => exact .send a b tgt via sem ha hb hd hs hx

theorem Pro.inl {Λ' : Labels} {S : α → α → Prop} {p p' : Prog (TpuEff nD τ sig Val Λ c.2) α} (hp : Pro W c S p p') :
    Pro W c S (TpuEff.inlProg (Λ' := Λ') p) (TpuEff.inlProg (Λ' := Λ') p') := by
  induction hp with
  | done h => exact .done h
  | act he _ ih => exact .act he.inl ih
  | enter ℓ a _ ih => exact .enter (Labels.inl ℓ) a ih
  | region ℓ a _ ih => exact .region (Labels.inl ℓ) a ih

end Prog

theorem Tab.swap {D D' : Defs nD τ sig Val Λ} (h : Tab W D D') : Tab W D' D := fun c ℓ a => (h c ℓ a).swap

/-- The bodies in step, and so the whole pipelines that call them. -/
theorem Tab.pipeline {P : Type} {pcs : P → Pipeline.PCfg sig Λ Val} (hx : ∀ p, PCfgExact W (pcs p)) {D D' : Defs nD τ sig Val Λ}
    (h : Tab W D D') : Tab W (Pipeline.defs pcs D) (Pipeline.defs pcs D') := by
  rintro ⟨d, _ | _ | _⟩ (ℓ | ⟨p⟩ | ⟨p⟩) a
  · exact (h _ ℓ a).inl
  · exact .of (prun_rel hx p)
  · exact .of (iter_rel (A := fun p => (pcs p).Adm) ((hx p).at d a.1) p a.1 a.2)
  · exact (h _ ℓ a).inl
  · exact .enter _ _ fun _ => .done rfl
  · exact .enter _ _ fun _ => .done rfl
  · exact (h _ ℓ a).inl
  · exact .enter _ _ fun _ => .done rfl
  · exact .enter _ _ fun _ => .done rfl

/-! ## A thread's step -/

/-- What an effect does to the transfers in flight is to put some before them, and it does no more with them. -/
theorem effStep_put {c : Thread nD τ} {s t : Phys nD τ sig Val} {ω : Valuation τ sig Val} {β : Type} {e : TpuEff nD τ sig Val Λ c.2 β}
    {x : β} (h : effStep c s ω e = some (x, t)) :
    ∃ L, t.dmas = L ++ s.dmas ∧ ∀ K, effStep c (put s K) ω e = some (x, put t (L ++ K)) := by
  cases e with
  | load | store | havoc | deviceId | dmaSemSignal | semRead | enqueueIndirectDma | prngSeed | prngDraw | hloBegin =>
    cases h; exact ⟨[], rfl, fun _ => rfl⟩
  | assume P d =>
    cases d with
    | isFalse => cases h
    | isTrue => cases h; exact ⟨[], rfl, fun _ => rfl⟩
  | semSignal dst sem n =>
    cases h
    refine ⟨[], ?_, fun K => ?_⟩
    · split <;> rfl
    · simp only [effStep]; split <;> rfl
  | semWait sem n =>
    simp only [effStep] at h ⊢
    split at h
    · rename_i hc; cases h; exact ⟨[], rfl, fun _ => if_pos hc⟩
    · cases h
  | enqueueDmaAs =>
    simp only [effStep] at h ⊢
    split at h
    · rename_i hc; cases h; exact ⟨[_], rfl, fun _ => if_pos hc⟩
    · cases h
  | waitDma =>
    simp only [effStep] at h ⊢
    split at h
    · rename_i hc; cases h; exact ⟨[], rfl, fun _ => if_pos hc⟩
    · cases h
  | kernelExit =>
    simp only [effStep] at h ⊢
    split at h
    · rename_i hc; cases h; exact ⟨[], rfl, fun _ => if_pos hc⟩
    · cases h
  | hloEnd hp B =>
    simp only [effStep] at h ⊢
    split at h
    · cases h
    · rename_i po hpo
      split at h
      · cases h
      · rename_i ht
        cases h
        exact ⟨[], rfl, fun _ => if_neg ht⟩
  | call | customCall => cases h

theorem same_all {L : List (Dma nD τ sig Val)} (h : ∀ d ∈ L, W.Exact d.src) : List.Forall₂ (Fly W) L L :=
  List.forall₂_same.mpr fun d hd => .same d (h d hd)

theorem append_all {L K L' K' : List (Dma nD τ sig Val)} (h : List.Forall₂ (Fly W) L L') (h' : List.Forall₂ (Fly W) K K') :
    List.Forall₂ (Fly W) (L ++ K) (L' ++ K') := by
  induction h with
  | nil => exact h'
  | cons a _ ih => exact .cons a ih

/-- Related states stay so under other lists of transfers in flight, if these are read from exact places. -/
theorem rest_put {s s' : Phys nD τ sig Val} (h : PhysRel W s s') : PhysRel W (put s []) (put s' []) := by
  cases h with | mk hm _ hops hstr => exact .mk hm (fun _ hd => by cases hd) hops hstr

theorem rest_cons {m m' : MemSt nD τ sig Val} {S S' : List (Stream nD τ sig Val)} {g g' : List (Signal nD τ sig)}
    {o o' : Thread nD τ → Option (PendingOp τ sig Val)} {n n' : Nat} (h : PhysRel W ⟨m, [], S, g, o, n⟩ ⟨m', [], S', g', o', n'⟩) :
    PhysRel W ⟨m, [], S, g, o, n + 1⟩ ⟨m', [], S', g', o', n' + 1⟩ := by
  cases h with | mk hm hd hops hstr => exact .mk hm hd hops hstr

theorem issued_eq {s s' : Phys nD τ sig Val} (h : PhysRel W s s') : s.issued = s'.issued := by cases h; rfl

theorem effStep_step {c : Thread nD τ} {s s' t : Phys nD τ sig Val} {ω : Valuation τ sig Val} {β : Type}
    {e e' : TpuEff nD τ sig Val Λ c.2 β} {T : β → β → Prop} {x : β}
    (he : Eff W c e e' T) (hs : Sta W s s') (h : effStep c s ω e = some (x, t)) :
    ∃ x' t', effStep c s' ω e' = some (x', t') ∧ T x x' ∧ Sta W t t' := by
  cases he with
  | same he =>
    obtain ⟨L, hL, hput⟩ := effStep_put h
    obtain ⟨x', t', h1, h2, h3⟩ := effStep_rel he hs.rest (hput [])
    obtain ⟨L', hL', hput'⟩ := effStep_put h1
    have hLL : L = L' := by
      have := h3.dmas_eq
      rw [hL', List.append_nil] at this
      simpa using this
    subst hLL
    refine ⟨x', put t' (L ++ s'.dmas), hput' s'.dmas, h2, rest_put (s := put t (L ++ [])) (s' := t') h3, ?_⟩
    rw [hL]
    exact append_all (same_all fun d hd => h3.src d (by simpa using hd)) hs.fly
  | send a b tgt via sem ha hb hd hsm hx =>
    simp only [effStep] at h
    split at h
    · rename_i hc
      cases h
      refine ⟨_, _, if_pos hc, rfl, rest_cons hs.rest, .cons ?_ hs.fly⟩
      rw [show s.issued = s'.issued from issued_eq (s := put s []) (s' := put s' []) hs.rest]
      exact .apart _ _ _ _ _ _ _ _ _ _ _ _ _ _ _ hx
    · cases h

/-! ## The engine's steps -/

theorem at_pos {L L' : List (Dma nD τ sig Val)} (h : List.Forall₂ (Fly W) L L') :
    ∀ {i : Nat} {d : Dma nD τ sig Val}, L[i]? = some d → ∃ d', L'[i]? = some d' ∧ Fly W d d' ∧
      (∀ e e', Fly W e e' → List.Forall₂ (Fly W) (L.set i e) (L'.set i e')) ∧ List.Forall₂ (Fly W) (L.eraseIdx i) (L'.eraseIdx i) := by
  induction h with
  | nil => intro i d h; simp at h
  | cons ha hr ih =>
    intro i d h
    cases i with
    | zero => cases h; exact ⟨_, rfl, ha, fun _ _ he => .cons he hr, hr⟩
    | succ i =>
      obtain ⟨d', h1, h2, h3, h4⟩ := ih (by simpa using h)
      exact ⟨d', by simpa using h1, h2, fun e e' he => .cons ha (h3 e e' he), .cons ha h4⟩

theorem rest_touchSem {s s' : Phys nD τ sig Val} (h : PhysRel W (put s []) (put s' [])) (g : GSem nD τ sig) (k : Int) (D D' : List (Dma nD τ sig Val)) :
    PhysRel W (put { s with mem := s.mem.addSem g k, dmas := D, ops := Phys.touchSem s.ops g } [])
      (put { s' with mem := s'.mem.addSem g k, dmas := D', ops := Phys.touchSem s'.ops g } []) := by
  obtain ⟨m, L, S, sg, o, n⟩ := s
  obtain ⟨m', L', S', sg', o', n'⟩ := s'
  cases h with | mk hm hd hops hstr => exact .mk (hm.addSem g k) hd hops.touchSem hstr

theorem rest_write {s s' : Phys nD τ sig Val} (h : PhysRel W (put s []) (put s' [])) (c : Thread nD τ) {sp : Space} {sh : Shape} {e : EltTy}
    (v : View sig c.2.kind sp sh e) {w w' : sh.Idx → Val e} (hw : ∀ x, W.Z (v.loc c) e (w x) (w' x)) (M : Finset sh.Idx)
    (d : Dev nD) (b : DevRef τ sig) (D D' : List (Dma nD τ sig Val)) :
    PhysRel W (put { s with mem := s.mem.writeView c v w M, dmas := D, ops := Phys.touch s.ops d b M } [])
      (put { s' with mem := s'.mem.writeView c v w' M, dmas := D', ops := Phys.touch s'.ops d b M } []) := by
  obtain ⟨m, L, S, sg, o, n⟩ := s
  obtain ⟨m', L', S', sg', o', n'⟩ := s'
  cases h with | mk hm hd hops hstr => exact .mk (hm.writeView c v hw M) hd hops.touch hstr

theorem serve_put (s : Phys nD τ sig Val) (i : Nat) (S : Stream nD τ sig Val) (k : Fin S.o) (alt : Buf Val S.loc) :
    ∃ L, (s.serve i S k alt).dmas = L ++ s.dmas ∧ ∀ K, (put s K).serve i S k alt = put (s.serve i S k alt) (L ++ K) := by
  have hw : ∀ K, (put s K).wordsFor S alt = s.wordsFor S alt := fun _ => rfl
  unfold Phys.serve
  simp only [hw]
  split
  · exact ⟨[_], rfl, fun _ => rfl⟩
  · exact ⟨[], rfl, fun _ => rfl⟩

theorem serve_step {s s' : Phys nD τ sig Val} (h : Sta W s s') {i : Nat} {S : Stream nD τ sig Val} (hS : s.streams[i]? = some S) (k : Fin S.o)
    (alt : Buf Val S.loc) : Sta W (s.serve i S k alt) (s'.serve i S k alt) := by
  obtain ⟨L, h1, h2⟩ := serve_put s i S k alt
  obtain ⟨L', h1', h2'⟩ := serve_put s' i S k alt
  have hr := h.rest.serve (i := i) hS k alt
  rw [h2, h2'] at hr
  have hLL : L = L' := by simpa using hr.dmas_eq
  subst hLL
  refine ⟨rest_put (s := put (s.serve i S k alt) (L ++ [])) (s' := put (s'.serve i S k alt) (L ++ [])) hr, ?_⟩
  rw [h1, h1']
  exact append_all (same_all fun d hd => hr.src d (by simpa using hd)) h.fly

theorem engine_step {D D' : Defs nD τ sig Val Λ} {s s' t : RunSt nD τ sig Val Λ} {n : Nat}
    (hs : Run W s s') (h : MeshStep D (.transfer n) s t) : ∃ t', MeshStep D' (.transfer n) s' t' ∧ Run W t t' := by
  cases h with
  | dmaRead i M alt hd hM =>
    obtain ⟨d', h1, h2, h3, -⟩ := at_pos hs.sta.fly hd
    cases h2 with
    | same _ hx =>
      rename_i d
      refine ⟨_, .dmaRead i M alt h1 hM, ⟨hs.sta.rest, ?_⟩, hs.pro⟩
      have : s.toPhys.srcFor d alt = s'.toPhys.srcFor d alt := by
        have ho := hs.sta.rest.opWrites_eq d.src.1 d.src.2
        have hm := hs.sta.rest.mem.eq_at hx
        unfold Phys.srcFor
        exact (congrArg₂ (fun (b : Bool) z => if b then alt else z) ho hm)
      exact h3 _ _ (this ▸ .same _ hx)
    | apart v v' via via' dc dv ss dsem b b' r w p q n hx =>
      exact ⟨_, .dmaRead (d := ⟨_, _, _, _, _, _, v', via', dc, _, dv, ss, dsem, b', r, w, p, q, n⟩) i M (s'.mem.mem _) h1 hM, ⟨hs.sta.rest, h3 _ _ (.apart v v' via via' dc dv ss dsem _ _ (r ∪ M) w p q n hx)⟩, hs.pro⟩
  | dmaWrite i M hd hM =>
    obtain ⟨d', h1, h2, h3, -⟩ := at_pos hs.sta.fly hd
    cases h2 with
    | same d hx =>
      exact ⟨_, .dmaWrite i M h1 hM, ⟨rest_write hs.sta.rest _ _ (fun _ => W.refl _ _ _) M _ _ _ _, h3 _ _ (.same _ hx)⟩, hs.pro⟩
    | apart v v' via via' dc dv ss dsem b b' r w p q n hx =>
      exact ⟨_, .dmaWrite (d := ⟨_, _, _, _, _, _, v', via', dc, _, dv, ss, dsem, b', r, w, p, q, n⟩) i M h1 hM, ⟨rest_write hs.sta.rest _ _ (fun _ => hx _ _ _) M _ _ _ _,
        h3 _ _ (.apart v v' via via' dc dv ss dsem b b' r (w ∪ M) p q n hx)⟩, hs.pro⟩
  | dmaPaySrc i k hd hk =>
    obtain ⟨d', h1, h2, h3, -⟩ := at_pos hs.sta.fly hd
    cases h2 with
    | same _ hx =>
      rename_i d
      refine ⟨_, .dmaPaySrc i k h1 hk, ⟨?_, h3 _ _ (.same _ hx)⟩, hs.pro⟩
      obtain ⟨sh, e, c, sp, s₀, e₀, v, via, dc, ds, dv, ss, dsem, b, r, w, p, q, n⟩ := d
      cases ss with
      | none => exact hs.sta.rest
      | some g => exact rest_touchSem hs.sta.rest g k _ _
    | apart v v' via via' dc dv ss dsem b b' r w p q n hx =>
      refine ⟨_, .dmaPaySrc (d := ⟨_, _, _, _, _, _, v', via', dc, _, dv, ss, dsem, b', r, w, p, q, n⟩) i k h1 hk, ⟨?_, h3 _ _ (.apart v v' via via' dc dv ss dsem b b' r w (p + k) q n hx)⟩, hs.pro⟩
      cases ss with
      | none => exact hs.sta.rest
      | some g => exact rest_touchSem hs.sta.rest g k _ _
  | dmaPayDst i k hd hk =>
    obtain ⟨d', h1, h2, h3, -⟩ := at_pos hs.sta.fly hd
    cases h2 with
    | same d hx => exact ⟨_, .dmaPayDst i k h1 hk, ⟨rest_touchSem hs.sta.rest _ k _ _, h3 _ _ (.same _ hx)⟩, hs.pro⟩
    | apart v v' via via' dc dv ss dsem b b' r w p q n hx =>
      exact ⟨_, .dmaPayDst (d := ⟨_, _, _, _, _, _, v', via', dc, _, dv, ss, dsem, b', r, w, p, q, n⟩) i k h1 hk, ⟨rest_touchSem hs.sta.rest _ k _ _, h3 _ _ (.apart v v' via via' dc dv ss dsem b b' r w p (q + k) n hx)⟩, hs.pro⟩
  | dmaRetire i hd hk =>
    obtain ⟨d', h1, h2, -, h4⟩ := at_pos hs.sta.fly hd
    cases h2 with
    | same d hx => exact ⟨_, .dmaRetire i h1 hk, ⟨hs.sta.rest, h4⟩, hs.pro⟩
    | apart v v' via via' dc dv ss dsem b b' r w p q n hx => exact ⟨_, .dmaRetire (d := ⟨_, _, _, _, _, _, v', via', dc, _, dv, ss, dsem, b', r, w, p, q, n⟩) i h1 hk, ⟨hs.sta.rest, h4⟩, hs.pro⟩
  | serve i k alt hS hk =>
    exact ⟨_, .serve i k alt (show s'.streams[i]? = _ from (hs.sta.rest.streams_eq : s.streams = s'.streams) ▸ hS) hk, serve_step hs.sta hS k alt, hs.pro⟩

theorem forget_step {s s' : Phys nD τ sig Val} (h : Sta W s s') (c : Thread nD τ) (ω : Valuation τ sig Val) : Sta W (s.forget c ω) (s'.forget c ω) :=
  ⟨h.rest.forget c ω, h.fly⟩

/-! ## A step of the mesh -/

theorem Eff.left {c : Thread nD τ} {β : Type} {e e' : TpuEff nD τ sig Val Λ c.2 β} {T : β → β → Prop} (he : Eff W c e e' T)
    (D : Defs nD τ sig Val Λ) (m : RunSt nD τ sig Val Λ) (ω : Valuation τ sig Val) (k : β → Prog (TpuEff nD τ sig Val Λ c.2) PUnit) :
    coreStepInner D c m ω (.op e k) = (effStep c m.toPhys ω e).map fun r => (some (k r.1), m.withPhys r.2) := by
  cases he with
  | same h => exact h.inner_left D m ω k
  | send => rfl

theorem inner_step {D D' : Defs nD τ sig Val Λ} (hD : Tab W D D') {c : Thread nD τ} {m m' : RunSt nD τ sig Val Λ}
    (hm : Sta W m.toPhys m'.toPhys) {ω : Valuation τ sig Val} {p p' : Prog (TpuEff nD τ sig Val Λ c.2) PUnit}
    (hp : Pro W c Eq p p') {q : Option (Prog (TpuEff nD τ sig Val Λ c.2) PUnit)} {n : RunSt nD τ sig Val Λ}
    (h : coreStepInner D c m ω p = some (q, n)) :
    ∃ q' n', coreStepInner D' c m' ω p' = some (q', n') ∧ Option.Rel (Pro W c Eq) q q' ∧ Sta W n.toPhys n'.toPhys ∧
      n.prog = m.prog ∧ n'.prog = m'.prog := by
  cases hp with
  | done _ => cases h; exact ⟨_, _, rfl, .none, hm, rfl, rfl⟩
  | enter ℓ a hk =>
    cases h
    exact ⟨_, _, rfl, .some ((hD c ℓ a).bind fun r _ hr => hr ▸ hk r), hm, rfl, rfl⟩
  | region ℓ a hk =>
    cases h
    exact ⟨_, _, rfl, .some ((hD c ℓ a).bind fun r _ hr => hr ▸ .act (.same .kernelExit) fun _ _ _ => hk r), forget_step hm c ω, rfl, rfl⟩
  | act he hk =>
    rw [he.left] at h
    obtain ⟨⟨x, t⟩, heff, hxm⟩ := Option.map_eq_some_iff.mp h
    cases hxm
    obtain ⟨x', t', h1, h2, h3⟩ := effStep_step he hm heff
    obtain ⟨_, he', -⟩ := he.swap
    exact ⟨_, m'.withPhys t', by rw [he'.left, h1]; rfl, .some (hk _ _ h2), h3, rfl, rfl⟩

theorem mesh_step {D D' : Defs nD τ sig Val Λ} (hD : Tab W D D') {s s' t : RunSt nD τ sig Val Λ} {a : Agent nD τ}
    (hs : Run W s s') (h : MeshStep D a s t) : ∃ t', MeshStep D' a s' t' ∧ Run W t t' := by
  cases a with
  | thread c =>
    cases h with
    | @core c ω _ q n hstep =>
      rw [coreStep] at hstep
      obtain ⟨p, hp, hin⟩ := Option.bind_eq_some_iff.mp hstep
      have hr := hs.pro c
      rw [hp] at hr
      generalize hp' : s'.prog c = o at hr
      cases hr with
      | some hpp =>
        obtain ⟨q', n', h1, h2, h3, h4, h5⟩ := inner_step hD hs.sta hpp hin
        refine ⟨n'.setProg c q', .core c ω (by rw [coreStep, hp']; exact h1), h3, fun c' => ?_⟩
        by_cases hc : c' = c
        · subst hc; simp only [RunSt.setProg, Function.update_self]; exact h2
        · simp only [RunSt.setProg, Function.update_of_ne hc, h4, h5]; exact hs.pro c'
  | transfer n => exact engine_step hs h
  | signal n =>
    cases h with
    | deliver i hsg =>
      refine ⟨_, .deliver i (show s'.sigs[i]? = _ from (hs.sta.rest.sigs_eq : s.sigs = s'.sigs) ▸ hsg), ⟨hs.sta.rest.deliver i _, hs.sta.fly⟩, hs.pro⟩

/-! ## Whole runs -/

theorem Fly.swap {d d' : Dma nD τ sig Val} (h : Fly W d d') : Fly W d' d := by
  cases h with
  | same _ hx => exact .same _ hx
  | apart v v' via via' dc dv ss dsem b b' r w p q n hx => exact .apart _ _ _ _ _ _ _ _ _ _ _ _ _ _ _ hx

theorem Run.swap {s s' : RunSt nD τ sig Val Λ} (h : Run W s s') : Run W s' s where
  sta := ⟨h.sta.rest.symm, h.sta.fly.flip.imp fun _ _ h => Fly.swap h⟩
  pro c := by
    have hc := h.pro c
    generalize s.prog c = q at hc
    generalize s'.prog c = q' at hc
    cases hc with
    | none => exact .none
    | some hp => exact .some hp.swap

theorem Run.over {s s' : RunSt nD τ sig Val Λ} (h : Run W s s') (hf : Final s) : Final s' := fun c => by
  have hc := h.pro c
  rw [hf c] at hc
  generalize s'.prog c = q' at hc
  cases hc; rfl

section Whole
variable {D D' : Defs nD τ sig Val Λ} (hD : Tab W D D') {s s' : RunSt nD τ sig Val Λ}

theorem next {a : Agent nD τ} {t : RunSt nD τ sig Val Λ} (hD : Tab W D D') (hs : Run W s s') (h : ¬ Final s ∧ MeshStep D a s t) :
    ∃ t', (¬ Final s' ∧ MeshStep D' a s' t') ∧ Run W t t' := by
  obtain ⟨t', h1, h2⟩ := mesh_step hD hs h.2
  exact ⟨t', ⟨fun hf => h.1 (hs.swap.over hf), h1⟩, h2⟩

include hD in
theorem reaches {t : RunSt nD τ sig Val Λ} (hs : Run W s s') (h : Reaches D s t) : ∃ t', Reaches D' s' t' ∧ Run W t t' := by
  unfold Reaches at h
  induction h with
  | refl => exact ⟨s', .refl, hs⟩
  | tail _ hst ih =>
    obtain ⟨u', hr, hu⟩ := ih
    obtain ⟨hn, a, hst⟩ := hst
    obtain ⟨t', ht, hrel⟩ := next hD hu ⟨hn, hst⟩
    exact ⟨t', hr.tail ⟨ht.1, a, ht.2⟩, hrel⟩

/-- The states in step with an infinite run's. -/
noncomputable def shadow (hs : Run W s s') (r : InfRun D s) : (n : Nat) → {t' : RunSt nD τ sig Val Λ // Run W (r.st n) t'}
  | 0 => ⟨s', by rw [r.head]; exact hs⟩
  | n + 1 => ⟨Classical.choose (next hD (shadow hs r n).2 (r.step n)), (Classical.choose_spec (next hD (shadow hs r n).2 (r.step n))).2⟩

noncomputable def shadowRun (hs : Run W s s') (r : InfRun D s) : InfRun D' s' where
  st n := (shadow hD hs r n).1
  ag := r.ag
  head := rfl
  step n := (Classical.choose_spec (next hD (shadow hD hs r n).2 (r.step n))).1

include hD in
theorem mesh (hs : Run W s s') {Q : MemSt nD τ sig Val → Prop} (hQ : ∀ m m', MemRel W m m' → Q m' → Q m) (h : MeshRun D' Q s') : MeshRun D Q s where
  post t ht hf := by
    obtain ⟨t', ht', hrel⟩ := reaches hD hs ht
    exact hQ _ _ hrel.sta.rest.mem (h.post t' ht' (hrel.over hf))
  progress t ht hn := by
    obtain ⟨t', ht', hrel⟩ := reaches hD hs ht
    obtain ⟨a, u', hu'⟩ := h.progress t' ht' fun hf => hn (hrel.swap.over hf)
    obtain ⟨u, hu, -⟩ := mesh_step hD.swap hrel.swap hu'
    exact ⟨a, u, hu⟩
  fair r hr := h.fair (shadowRun hD hs r) fun a n hen => hr a n fun k hk => by
    obtain ⟨u', hu'⟩ := hen k hk
    obtain ⟨u, hu, -⟩ := mesh_step hD.swap (shadow hD hs r k).2.swap hu'
    exact ⟨u, hu⟩

include hD in
/-- What does not tell related memories apart carries over. -/
theorem carry {p p' : (c : Thread nD τ) → Prog (TpuEff nD τ sig Val Λ c.2) PUnit}
    (hp : ∀ c, Pro W c Eq (p c) (p' c)) (m : MemSt nD τ sig Val) {Q : PUnit × MemSt nD τ sig Val → Prop}
    (hQ : ∀ m₁ m₂, MemRel W m₁ m₂ → Q (⟨⟩, m₂) → Q (⟨⟩, m₁)) (h : θ_run D' p' m Q) : θ_run D p m Q :=
  mesh (D := D) (D' := D') hD (s := load p m) (s' := load p' m) ⟨⟨.mk (.refl m) (fun _ h => by cases h) (fun _ _ h => by cases h) (fun _ h => by cases h), .nil⟩,
    fun c => .some (hp c)⟩ hQ h

end Whole

end Cert.Lockstep
end
-- ==== Proof.Body.lean ====
module

public import proofs.«01_k».proof.Proof.Gen.KernelIdeal.Skeleton

/-! The kernel's body as a loop over hops, with the memory the acknowledgement transfers read left as a
    parameter. -/

@[expose] public section

set_option synthInstance.maxSize 4096

noncomputable section

namespace Cert.KernelIdeal.Ring

open Idealize.ShloMosaic Idealize.SL.Sem
open Cert.KernelIdeal Cert.KernelIdeal.Gen

variable {F : FTy → Type} [FloatOps F] [Named F]

/-- The device on the left, the device on the right. -/
def lft (d : Dev nD) : Dev nD := ⟨k0_dev1 d, k0_dev1_lt d⟩
def rgt (d : Dev nD) : Dev nD := ⟨k0_dev2 d, k0_dev2_lt d⟩

/-- Where a slot begins in the key/value buffer (its keys, its values), in the acknowledgement buffer and
    in a pair of semaphores. -/
def off3 : Bool → Fin 3 → ℕ
  | false => ![0, 0, 0]
  | true => ![1, 0, 0]
def offV : Bool → Fin 3 → ℕ
  | false => ![0, 1024, 0]
  | true => ![1, 1024, 0]
def off1 : Bool → Fin 1 → ℕ
  | false => ![0]
  | true => ![1]

theorem inb_kv : ∀ b a, off3 b a + S1x2048x128.size a ≤ S2x2048x128.size a
  | false => inb_S2x2048x128_S1x2048x128_0_0_0
  | true => inb_S2x2048x128_S1x2048x128_1_0_0
theorem inb_k : ∀ b a, off3 b a + S1x1024x128.size a ≤ S2x2048x128.size a
  | false => inb_S2x2048x128_S1x1024x128_0_0_0
  | true => inb_S2x2048x128_S1x1024x128_1_0_0
theorem inb_v : ∀ b a, offV b a + S1x1024x128.size a ≤ S2x2048x128.size a
  | false => inb_S2x2048x128_S1x1024x128_0_1024_0
  | true => inb_S2x2048x128_S1x1024x128_1_1024_0
theorem inb_ack : ∀ b a, off3 b a + S1x8x128.size a ≤ S2x8x128.size a
  | false => inb_S2x8x128_S1x8x128_0_0_0
  | true => inb_S2x8x128_S1x8x128_1_0_0
theorem inb_sem : ∀ b a, off1 b a + S1.size a ≤ S2.size a
  | false => inb_S2_S1_0
  | true => inb_S2_S1_1

/-- The rectangle of one slot, of its keys, of its values, of an acknowledgement slot. -/
def slotRect (b : Bool) : Rect S2x2048x128 := Rect.unit (s := S2x2048x128) (off3 b) S1x2048x128.size (inb_kv b)
def kRect (b : Bool) : Rect S2x2048x128 := Rect.unit (s := S2x2048x128) (off3 b) S1x1024x128.size (inb_k b)
def vRect (b : Bool) : Rect S2x2048x128 := Rect.unit (s := S2x2048x128) (offV b) S1x1024x128.size (inb_v b)
def ackRect (b : Bool) : Rect S2x8x128 := Rect.unit (s := S2x8x128) (off3 b) S1x8x128.size (inb_ack b)

/-- One slot of the key/value buffer, of the acknowledgement buffer, of a pair of semaphores. -/
def kvSlot (arg4 : Memref sig .tc .vmem S2x2048x128 .bf16) (b : Bool) : Memref sig .tc .vmem S2048x128 .bf16 :=
  (arg4.slice (slotRect b) (fun _ => rfl)).squeeze S2048x128 squeezes_S1x2048x128_S2048x128
def ackSlot (arg7 : Memref sig .tc .vmem S2x8x128 .f32) (b : Bool) : Memref sig .tc .vmem S8x128 .f32 :=
  (arg7.slice (ackRect b) (fun _ => rfl)).squeeze S8x128 squeezes_S1x8x128_S8x128
def semSlot (a : DmaSems sig S2) (b : Bool) : DmaSem sig :=
  ((a.slice (Rect.unit (s := S2) (off1 b) S1.size (inb_sem b))).squeeze S_ squeezes_S1_S_).sem

theorem kvExact {arg4 : Memref sig .tc .vmem S2x2048x128 .bf16} (h : arg4.IsWhole) :
    ∀ b, (kvSlot arg4 b).view.WordExact
  | false => ((h.wordExact_slice rfl _ wordsbf16_S2x2048x128_S1x2048x128_0_0_0).reshape _ _)
  | true => ((h.wordExact_slice rfl _ wordsbf16_S2x2048x128_S1x2048x128_1_0_0).reshape _ _)
theorem ackExact (arg7 : Memref sig .tc .vmem S2x8x128 .f32) (b : Bool) : (ackSlot arg7 b).view.WordExact :=
  (View.wordExact_bits rfl).reshape _ _

abbrev E0 := TpuEff nD τ sig (Elt F) Λ₀ .tc

section
variable (arg0 arg1 arg2 : Memref sig .tc .vmem S1024x128 .bf16) (arg3 : Memref sig .tc .vmem S1024x128 .f32)
  (arg4 : Memref sig .tc .vmem S2x2048x128 .bf16) (harg4 : arg4.IsWhole) (arg5 arg6 : DmaSems sig S2)
  (arg7 : Memref sig .tc .vmem S2x8x128 .f32) (arg8 arg9 : DmaSems sig S2)
  (src : Bool → Memref sig .tc .vmem S8x128 .f32) (hsrc : ∀ b, (src b).view.WordExact)

/-- Send the slot `b` of the key/value buffer to the slot `!b` of the device on the right. -/
def kvSend (d : Dev nD) (b : Bool) : Prog (E0 (F := F)) PUnit :=
  Prog.lift (.enqueueDma (kvSlot arg4 b) (.remote (Dev.tc (rgt d)) (kvSlot arg4 (!b)) (.dma (semSlot arg5 b)))
    (.dma (semSlot arg6 (!b))) (kvExact harg4 b) (kvExact harg4 (!b)) ⟨⟨rfl, Or.inl rfl⟩, trivial⟩)
/-- Send `src b` to the slot `b` of the acknowledgement buffer of the device on the left. -/
def ackSend (d : Dev nD) (b : Bool) : Prog (E0 (F := F)) PUnit :=
  Prog.lift (.enqueueDma (src b) (.remote (Dev.tc (lft d)) (ackSlot arg7 b) (.dma (semSlot arg8 b)))
    (.dma (semSlot arg9 b)) (hsrc b) (ackExact arg7 b) ⟨⟨rfl, Or.inl rfl⟩, trivial⟩)
def ackWait (a : DmaSems sig S2) (b : Bool) : Prog (E0 (F := F)) PUnit :=
  Prog.lift (.waitDma2 (semSlot a b) (ackSlot arg7 b) (ackSlot arg7 b) (ackExact arg7 b) (ackExact arg7 b))
def kvWaitSend (b : Bool) : Prog (E0 (F := F)) PUnit :=
  Prog.lift (.waitDma2 (semSlot arg5 b) (kvSlot arg4 (!b)) (kvSlot arg4 b) (kvExact harg4 (!b)) (kvExact harg4 b))
def kvWaitRecv (b : Bool) : Prog (E0 (F := F)) PUnit :=
  Prog.lift (.waitDma2 (semSlot arg6 (!b)) (kvSlot arg4 b) (kvSlot arg4 (!b)) (kvExact harg4 b) (kvExact harg4 (!b)))

/-- What the loop carries: the running maximum, the running denominator, the running numerator. -/
structure Acc (F : FTy → Type) where
  m : FVec F S1024x1 .f32
  l : FVec F S1024x1 .f32
  a : FVec F S1024x128 .f32

/-- One block taken into the running softmax. -/
def Acc.step (q : FVec F S1024x128 .bf16) (s : Acc F) (k v : Vec F S1x1024x128 .bf16) : Acc F :=
  ⟨k0_pay16 q s.m k, k0_pay19 q s.m s.l k, k0_pay20 q s.m s.a k v⟩
/-- The device's own block taken first. -/
def Acc.first (q k v : Vec F S1024x128 .bf16) : Acc F :=
  ⟨k0_pay8 q k, k0_pay11 q k, k0_pay14 (k0_pay6 v) (k0_pay12 q k) (k0_pay13 q k)⟩

def par (h : ℕ) : Bool := decide (h % 2 = 1)

/-- The acknowledgements of one hop: wait for the one before the last of this slot, send this one. -/
def ackPhase (d : Dev nD) (h : ℕ) : Prog (E0 (F := F)) PUnit :=
  if h < 30 then do
    if 2 ≤ h then ackWait arg7 arg8 (par h) else pure ⟨⟩
    ackSend arg7 arg8 arg9 src hsrc d (par h)
  else pure ⟨⟩

/-- One hop: the slot `par h` goes to the right, the slot `!par h` comes from the left, an acknowledgement
    goes to the left, and the block that came is taken. -/
def hop (d : Dev nD) (q : FVec F S1024x128 .bf16) (h : ℕ) (s : Acc F) : Prog (E0 (F := F)) (Acc F) := do
  if 1 ≤ h then ackWait arg7 arg9 (!par h) else pure ⟨⟩
  kvSend arg4 harg4 arg5 arg6 d (par h)
  kvWaitSend arg4 harg4 arg5 (par h)
  kvWaitRecv arg4 harg4 arg6 (par h)
  ackPhase arg7 arg8 arg9 src hsrc d h
  let k : Vec F S1x1024x128 .bf16 ← Prog.lift (.load arg4 (kRect (!par h)).toLoadRect (View.loadsAt_vmem h_S1x1024x128))
  let v : Vec F S1x1024x128 .bf16 ← Prog.lift (.load arg4 (vRect (!par h)).toLoadRect (View.loadsAt_vmem h_S1x1024x128))
  pure (s.step q k v)

/-- `n` hops, the first of them hop `h`. -/
def hops (d : Dev nD) (q : FVec F S1024x128 .bf16) : ℕ → ℕ → Acc F → Prog (E0 (F := F)) (Acc F)
  | 0, _, s => pure s
  | n + 1, h, s => hop arg4 harg4 arg5 arg6 arg7 arg8 arg9 src hsrc d q h s >>= hops d q n (h + 1)

/-- The barrier with both neighbours. -/
def barrierPhase : Prog (E0 (F := F)) (Dev nD) := do
  let d ← Prog.lift .deviceId
  semSignalWord (lft d) (SemArray.scalar (sig.barrier 0 rfl) : Sems sig S_).sem 1#32
  semSignalWord (rgt d) (SemArray.scalar (sig.barrier 0 rfl) : Sems sig S_).sem 1#32
  semWaitWord (SemArray.scalar (sig.barrier 0 rfl) : Sems sig S_).sem 2#32
  pure d

abbrev whole2 : LoadRect S1024x128 := (Rect.unit (s := S1024x128) ![0, 0] S1024x128.size inb_S1024x128_S1024x128_0_0).toLoadRect

/-- The device's own block put in slot 0, and taken. -/
def ownPhase : Prog (E0 (F := F)) (Σ' (_ : FVec F S1024x128 .bf16), Acc F) := do
  let k : Vec F S1024x128 .bf16 ← Prog.lift (.load arg1 whole2 (View.loadsAt_vmem h_S1024x128))
  let _ : Vec F S1x1024x128 .bf16 ← Prog.lift (.load arg4 (kRect false).toLoadRect (View.loadsAt_vmem h_S1x1024x128))
  Prog.lift (.store arg4 (kRect false) (k0_pay2 k) Finset.univ (View.stores_vmem h_S1x1024x128 (harg4.storeExact_slice rfl _ packedbf16_S2x2048x128_S1x1024x128_0_0_0) (fun _ => rfl)) (.inl rfl))
  let v : Vec F S1024x128 .bf16 ← Prog.lift (.load arg2 whole2 (View.loadsAt_vmem h_S1024x128))
  let _ : Vec F S1x1024x128 .bf16 ← Prog.lift (.load arg4 (vRect false).toLoadRect (View.loadsAt_vmem h_S1x1024x128))
  Prog.lift (.store arg4 (vRect false) (k0_pay3 v) Finset.univ (View.stores_vmem h_S1x1024x128 (harg4.storeExact_slice rfl _ packedbf16_S2x2048x128_S1x1024x128_0_1024_0) (fun _ => rfl)) (.inl rfl))
  let q : Vec F S1024x128 .bf16 ← Prog.lift (.load arg0 whole2 (View.loadsAt_vmem h_S1024x128))
  let k' : Vec F S1024x128 .bf16 ← Prog.lift (.load arg1 whole2 (View.loadsAt_vmem h_S1024x128))
  let v' : Vec F S1024x128 .bf16 ← Prog.lift (.load arg2 whole2 (View.loadsAt_vmem h_S1024x128))
  pure ⟨k0_pay4 q, Acc.first q k' v'⟩

/-- The last acknowledgements waited for, and the result stored. -/
def endPhase (s : Acc F) : Prog (E0 (F := F)) PUnit := do
  ackWait arg7 arg8 false
  ackWait arg7 arg8 true
  let _ : Vec F S1024x128 .f32 ← Prog.lift (.load arg3 whole2 (View.loadsAt_vmem h_S1024x128))
  Prog.lift (.store arg3 (Rect.unit (s := S1024x128) ![0, 0] S1024x128.size inb_S1024x128_S1024x128_0_0) (k0_pay1 s.l s.a) Finset.univ (View.stores_vmem_bits_univ h_S1024x128 rfl) (.inl rfl))
  pure ⟨⟩

/-- The whole body. -/
def body : Prog (E0 (F := F)) PUnit := do
  let d ← barrierPhase
  let ⟨q, s⟩ ← ownPhase arg0 arg1 arg2 arg4 harg4
  let s ← hops arg4 harg4 arg5 arg6 arg7 arg8 arg9 src hsrc d q 31 0 s
  endPhase arg3 arg7 arg8 s
end

end Cert.KernelIdeal.Ring
end
-- ==== Proof.BodyEq.lean ====
module

public import proofs.«01_k».proof.Proof.Body

/-! The printed body is the loop, its acknowledgements read from the acknowledgement buffer. -/

@[expose] public section

set_option synthInstance.maxSize 4096

namespace Cert.KernelIdeal.Ring

open Idealize.ShloMosaic Idealize.SL.Sem
open Cert.KernelIdeal Cert.KernelIdeal.Gen

variable {F : FTy → Type} [FloatOps F] [Named F]

set_option maxRecDepth 1000000 in
set_option maxHeartbeats 0 in
theorem body_eq : @cc0_body F _ _ _ = fun arg0 harg0 arg1 harg1 arg2 harg2 arg3 harg3 arg4 harg4 arg5 arg6 arg7 harg7 arg8 arg9 =>
    body arg0 arg1 arg2 arg3 arg4 harg4 arg5 arg6 arg7 arg8 arg9 (ackSlot arg7) (ackExact arg7) := rfl

end Cert.KernelIdeal.Ring
end
-- ==== Proof.Slots.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.ValueKit.Geometry

/-! The memory a device's slots are: what a slot holds, what a load of it reads, and how the buffers split
    into slots. -/

@[expose] public section

noncomputable section

namespace Cert.KernelIdeal.Ring

open Idealize.ShloMosaic Idealize.SL.Sem
open Idealize.ShloMosaic.TcCoe
open Cert.KernelIdeal Cert.KernelIdeal.Gen

variable {F : FTy → Type} [FloatOps F] [Named F]

abbrev kvM : Memref sig .tc .vmem S2x2048x128 .bf16 := Memref.whole cc0_scratch0
abbrev ackM : Memref sig .tc .vmem S2x8x128 .f32 := Memref.whole cc0_scratch3
abbrev qM : Memref sig .tc .vmem S1024x128 .bf16 := Memref.whole cc0_stg0_0
abbrev kM : Memref sig .tc .vmem S1024x128 .bf16 := Memref.whole cc0_stg1_0
abbrev vM : Memref sig .tc .vmem S1024x128 .bf16 := Memref.whole cc0_stg2_0
abbrev oM : Memref sig .tc .vmem S1024x128 .f32 := Memref.whole cc0_stg3_0

def offP : Bool → Fin 2 → ℕ
  | false => ![0, 0]
  | true => ![8, 0]
theorem inb_piece : ∀ b a, offP b a + S8x128.size a ≤ S1024x128.size a := by decide
def pieceRect (b : Bool) : Rect S1024x128 := Rect.unit (s := S1024x128) (offP b) S8x128.size (inb_piece b)
/-- Eight rows of the result's buffer: rows 0–7, rows 8–15. -/
def piece (b : Bool) : Memref sig .tc .vmem S8x128 .f32 := oM.slice (pieceRect b) (fun _ => rfl)
theorem pieceExact (b : Bool) : (piece b).view.WordExact := View.wordExact_bits rfl

/-- An index of a slot's keys or values, by row and column. -/
def kvIdx (r c : ℕ) (hr : r < 1024) (hc : c < 128) : S1x1024x128.Idx := fun a => match a with
  | ⟨0, _⟩ => ⟨0, Nat.one_pos⟩
  | ⟨1, _⟩ => ⟨r, hr⟩
  | ⟨2, _⟩ => ⟨c, hc⟩

theorem kvIdx_eq (x : S1x1024x128.Idx) {r c : ℕ} (hr : r < 1024) (hc : c < 128)
    (h1 : r = (x (1 : Fin 3)).val) (h2 : c = (x (2 : Fin 3)).val) : kvIdx r c hr hc = x := by
  subst h1 h2
  have h0 : (0 : ℕ) = (x (0 : Fin 3)).val := by have : (x (0 : Fin 3)).val < 1 := (x (0 : Fin 3)).isLt; omega
  funext a
  match a with
  | ⟨0, _⟩ => exact Fin.ext h0
  | ⟨1, _⟩ => rfl
  | ⟨2, _⟩ => rfl

/-- A block: the keys `k` followed by the values `v`, by row and column. -/
def kvRC (k v : Vec F S1024x128 .bf16) (r c : ℕ) (hr : r < 2048) (hc : c < 128) : Elt F .bf16 :=
  if h : r < 1024 then k0_pay2 k (kvIdx r c h hc) else k0_pay3 v (kvIdx (r - 1024) c (by omega) hc)

theorem kvRC_congr (k v : Vec F S1024x128 .bf16) {r c r' c' : ℕ} (hr : r < 2048) (hc : c < 128) (hr' : r' < 2048) (hc' : c' < 128)
    (h1 : r = r') (h2 : c = c') : kvRC k v r c hr hc = kvRC k v r' c' hr' hc' := by
  subst h1 h2; rfl

/-- A key/value buffer whose slots both hold the block. -/
def kvAt (k v : Vec F S1024x128 .bf16) : (cc0_scratch0 : Ref sig .tc).ty.Contents (Elt F) := fun i =>
  kvRC k v (i (1 : Fin 3)).val (i (2 : Fin 3)).val (i (1 : Fin 3)).isLt (i (2 : Fin 3)).isLt

theorem kvAt_congr (k v : Vec F S1024x128 .bf16) (i j : (cc0_scratch0 : Ref sig .tc).ty.Idx)
    (h1 : (i (1 : Fin 3)).val = (j (1 : Fin 3)).val) (h2 : (i (2 : Fin 3)).val = (j (2 : Fin 3)).val) : kvAt (F := F) k v i = kvAt k v j :=
  kvRC_congr k v _ _ _ _ h1 h2

theorem kvAt_k (k v : Vec F S1024x128 .bf16) (i : (cc0_scratch0 : Ref sig .tc).ty.Idx) (x : S1x1024x128.Idx)
    (h1 : (i (1 : Fin 3)).val = (x (1 : Fin 3)).val) (h2 : (i (2 : Fin 3)).val = (x (2 : Fin 3)).val) : kvAt (F := F) k v i = k0_pay2 k x := by
  unfold kvAt kvRC
  rw [dif_pos (by rw [h1]; exact (x (1 : Fin 3)).isLt)]
  exact congrArg _ (kvIdx_eq x _ _ h1 h2)

theorem kvAt_v (k v : Vec F S1024x128 .bf16) (i : (cc0_scratch0 : Ref sig .tc).ty.Idx) (x : S1x1024x128.Idx)
    (h1 : (i (1 : Fin 3)).val = 1024 + (x (1 : Fin 3)).val) (h2 : (i (2 : Fin 3)).val = (x (2 : Fin 3)).val) : kvAt (F := F) k v i = k0_pay3 v x := by
  unfold kvAt kvRC
  rw [dif_neg (by omega)]
  exact congrArg _ (kvIdx_eq x _ _ (by omega) h2)

theorem emb_k (b : Bool) (x : S1x1024x128.Idx) (a : Fin 3) : (((kvM : Memref sig .tc .vmem S2x2048x128 .bf16).access (kRect b)).emb x a : Fin _).val = off3 b a + (x a).val :=
  ValueKit.view_emb_slice_whole_unit_val cc0_scratch0 (off3 b) S1x1024x128.size (inb_k b) x a
theorem emb_v (b : Bool) (x : S1x1024x128.Idx) (a : Fin 3) : (((kvM : Memref sig .tc .vmem S2x2048x128 .bf16).access (vRect b)).emb x a : Fin _).val = offV b a + (x a).val :=
  ValueKit.view_emb_slice_whole_unit_val cc0_scratch0 (offV b) S1x1024x128.size (inb_v b) x a

theorem read_k (b : Bool) (k v : Vec F S1024x128 .bf16) :
    ((kvM : Memref sig .tc .vmem S2x2048x128 .bf16).access (kRect b)).read (Elt F) (kvAt k v) = k0_pay2 k :=
  funext fun x => kvAt_k k v _ x
    ((emb_k b x 1).trans (by rw [show off3 b (1 : Fin 3) = 0 by cases b <;> rfl, Nat.zero_add]))
    ((emb_k b x 2).trans (by rw [show off3 b (2 : Fin 3) = 0 by cases b <;> rfl, Nat.zero_add]))

theorem read_v (b : Bool) (k v : Vec F S1024x128 .bf16) :
    ((kvM : Memref sig .tc .vmem S2x2048x128 .bf16).access (vRect b)).read (Elt F) (kvAt k v) = k0_pay3 v :=
  funext fun x => kvAt_v k v _ x
    ((emb_v b x 1).trans (by rw [show offV b (1 : Fin 3) = 1024 by cases b <;> rfl]))
    ((emb_v b x 2).trans (by rw [show offV b (2 : Fin 3) = 0 by cases b <;> rfl, Nat.zero_add]))

/-- A slot's elements. -/
def slotSet (b : Bool) : Finset ((cc0_scratch0 : Ref sig .tc).ty.Idx) := (slotRect b).set
def ackSet (b : Bool) : Finset ((cc0_scratch3 : Ref sig .tc).ty.Idx) := (ackRect b).set
def pieceSet (b : Bool) : Finset ((cc0_stg3_0 : Ref sig .tc).ty.Idx) := (pieceRect b).set

theorem set_slot (b : Bool) : (kvSlot kvM b).view.set = slotSet b :=
  (View.set_reshape _ _).trans (View.set_slice_whole cc0_scratch0 (slotRect b))
theorem set_ack (b : Bool) : (ackSlot ackM b).view.set = ackSet b :=
  (View.set_reshape _ _).trans (View.set_slice_whole cc0_scratch3 (ackRect b))
theorem set_piece (b : Bool) : (piece b).view.set = pieceSet b := View.set_slice_whole cc0_stg3_0 (pieceRect b)

theorem mem_slot (b : Bool) (i : (cc0_scratch0 : Ref sig .tc).ty.Idx) :
    i ∈ slotSet b ↔ (i (0 : Fin 3)).val = (if b then 1 else 0) := by
  unfold slotSet slotRect
  have h0 : (i (0 : Fin 3)).val < 2 := (i (0 : Fin 3)).isLt
  have h1 : (i (1 : Fin 3)).val < 2048 := (i (1 : Fin 3)).isLt
  have h2 : (i (2 : Fin 3)).val < 128 := (i (2 : Fin 3)).isLt
  refine Rect.mem_set_unit.trans ⟨fun h => ?_, fun h a => ?_⟩
  · have := h (0 : Fin 3)
    cases b <;> simp [off3, S1x2048x128] at this ⊢ <;> omega
  · cases b <;> fin_cases a <;> simp [off3, S1x2048x128] at h ⊢ <;> omega

theorem emb_slot (b : Bool) (x : S2048x128.Idx) (a : Fin 3) :
    ((kvSlot kvM b).view.emb x a : Fin _).val = off3 b a + ((Shape.reshapeEquiv squeezes_S1x2048x128_S2048x128.numel_eq x : S1x2048x128.Idx) a).val :=
  ValueKit.view_emb_slice_whole_unit_val cc0_scratch0 (off3 b) S1x2048x128.size (inb_kv b) _ a

/-- What the slot `b` holds, copied to the slot `b'`, is what the slot `b'` holds. -/
theorem copy_slot (b b' : Bool) (k v : Vec F S1024x128 .bf16) (fd : (cc0_scratch0 : Ref sig .tc).ty.Contents (Elt F)) :
    ∀ i ∈ slotSet b', (kvSlot kvM b').view.write (Elt F) fd ((kvSlot kvM b).view.read (Elt F) (kvAt k v)) Finset.univ i = kvAt k v i := by
  intro i hi
  rw [← set_slot] at hi
  obtain ⟨x, -, rfl⟩ := Finset.mem_map.mp hi
  refine (View.write_emb_of_mem (Val := Elt F) (v := (kvSlot kvM b').view) _ _ (Finset.mem_univ x)).trans (kvAt_congr k v _ _ ?_ ?_)
  · exact (emb_slot b x 1).trans ((emb_slot b' x 1).trans (by cases b <;> cases b' <;> rfl)).symm
  · exact (emb_slot b x 2).trans ((emb_slot b' x 2).trans (by cases b <;> cases b' <;> rfl)).symm

theorem k_sub (b : Bool) : ((kvM : Memref sig .tc .vmem S2x2048x128 .bf16).access (kRect b)).set ⊆ slotSet b := by
  intro i hi
  obtain ⟨x, -, rfl⟩ := Finset.mem_map.mp hi
  refine (mem_slot b _).mpr ((emb_k b x 0).trans ?_)
  have : (x (0 : Fin 3)).val < 1 := (x (0 : Fin 3)).isLt
  cases b <;> simp [off3] <;> omega
theorem v_sub (b : Bool) : ((kvM : Memref sig .tc .vmem S2x2048x128 .bf16).access (vRect b)).set ⊆ slotSet b := by
  intro i hi
  obtain ⟨x, -, rfl⟩ := Finset.mem_map.mp hi
  refine (mem_slot b _).mpr ((emb_v b x 0).trans ?_)
  have : (x (0 : Fin 3)).val < 1 := (x (0 : Fin 3)).isLt
  cases b <;> simp [offV] <;> omega

/-- The keys stored in slot 0, then the values, make the slot the block's. -/
theorem store_slot (k v : Vec F S1024x128 .bf16) (f : (cc0_scratch0 : Ref sig .tc).ty.Contents (Elt F)) :
    ∀ i ∈ slotSet false,
      ((kvM : Memref sig .tc .vmem S2x2048x128 .bf16).access (vRect false)).write (Elt F)
        (((kvM : Memref sig .tc .vmem S2x2048x128 .bf16).access (kRect false)).write (Elt F) f (k0_pay2 k) Finset.univ) (k0_pay3 v) Finset.univ i
        = kvAt k v i := by
  intro i hi
  have hi0 := (mem_slot false i).mp hi
  have h1 : (i (1 : Fin 3)).val < 2048 := (i (1 : Fin 3)).isLt
  by_cases h : (i (1 : Fin 3)).val < 1024
  · have e : ((kvM : Memref sig .tc .vmem S2x2048x128 .bf16).access (kRect false)).emb (kvIdx (i (1 : Fin 3)).val (i (2 : Fin 3)).val h (i (2 : Fin 3)).isLt) = i := by
      funext a; refine Fin.ext ((emb_k false _ a).trans ?_)
      match a with
      | ⟨0, _⟩ => exact hi0.symm
      | ⟨1, _⟩ => exact Nat.zero_add _
      | ⟨2, _⟩ => exact Nat.zero_add _
    refine (View.write_of_not_mem (v := (kvM : Memref sig .tc .vmem S2x2048x128 .bf16).access (vRect false)) _ _ _ ?_).trans ?_
    · intro hm
      obtain ⟨x, -, e'⟩ := Finset.mem_map.mp hm
      have h2 := emb_v false x 1
      rw [e'] at h2
      have e2 : offV false (1 : Fin 3) = 1024 := rfl
      omega
    · conv_lhs => rw [← e]
      refine (View.write_emb_of_mem (Val := Elt F) (v := (kvM : Memref sig .tc .vmem S2x2048x128 .bf16).access (kRect false)) _ _ (Finset.mem_univ _)).trans ?_
      exact (kvAt_k k v i _ rfl rfl).symm
  · have e : ((kvM : Memref sig .tc .vmem S2x2048x128 .bf16).access (vRect false)).emb (kvIdx ((i (1 : Fin 3)).val - 1024) (i (2 : Fin 3)).val (by omega) (i (2 : Fin 3)).isLt) = i := by
      funext a; refine Fin.ext ((emb_v false _ a).trans ?_)
      match a with
      | ⟨0, _⟩ => exact hi0.symm
      | ⟨1, _⟩ => exact (show 1024 + ((i (1 : Fin 3)).val - 1024) = (i (1 : Fin 3)).val by omega)
      | ⟨2, _⟩ => exact Nat.zero_add _
    conv_lhs => rw [← e]
    refine (View.write_emb_of_mem (Val := Elt F) (v := (kvM : Memref sig .tc .vmem S2x2048x128 .bf16).access (vRect false)) _ _ (Finset.mem_univ _)).trans ?_
    exact (kvAt_v k v i _ (show (i (1 : Fin 3)).val = 1024 + ((i (1 : Fin 3)).val - 1024) by omega) rfl).symm

/-- The two slots are the buffer. -/
theorem slots_union : slotSet false ∪ slotSet true = Finset.univ := by
  ext i
  have h0 : (i (0 : Fin 3)).val < 2 := (i (0 : Fin 3)).isLt
  simp only [Finset.mem_union, mem_slot, Finset.mem_univ, iff_true]
  simp; omega
theorem slots_disjoint : Disjoint (slotSet false) (slotSet true) := by
  rw [Finset.disjoint_left]
  intro i h h'
  rw [mem_slot] at h h'
  simp at h h'; omega

theorem mem_ack (b : Bool) (i : (cc0_scratch3 : Ref sig .tc).ty.Idx) :
    i ∈ ackSet b ↔ (i (0 : Fin 3)).val = (if b then 1 else 0) := by
  unfold ackSet ackRect
  have h0 : (i (0 : Fin 3)).val < 2 := (i (0 : Fin 3)).isLt
  have h1 : (i (1 : Fin 3)).val < 8 := (i (1 : Fin 3)).isLt
  have h2 : (i (2 : Fin 3)).val < 128 := (i (2 : Fin 3)).isLt
  refine Rect.mem_set_unit.trans ⟨fun h => ?_, fun h a => ?_⟩
  · have := h (0 : Fin 3)
    cases b <;> simp [off3, S1x8x128] at this ⊢ <;> omega
  · cases b <;> fin_cases a <;> simp [off3, S1x8x128] at h ⊢ <;> omega

theorem acks_union : ackSet false ∪ ackSet true = Finset.univ := by
  ext i
  have h0 : (i (0 : Fin 3)).val < 2 := (i (0 : Fin 3)).isLt
  simp only [Finset.mem_union, mem_ack, Finset.mem_univ, iff_true]
  simp; omega
theorem acks_disjoint : Disjoint (ackSet false) (ackSet true) := by
  rw [Finset.disjoint_left]
  intro i h h'
  rw [mem_ack] at h h'
  simp at h h'; omega

theorem pieces_disjoint : Disjoint (pieceSet false) (pieceSet true) := by
  rw [Finset.disjoint_left]
  intro i h h'
  have h1 := (Rect.mem_set_unit.mp h (0 : Fin 2)).2
  have h2 := (Rect.mem_set_unit.mp h' (0 : Fin 2)).1
  simp [offP, S8x128] at h1 h2; omega

end Cert.KernelIdeal.Ring
end
-- ==== Proof.Proto.lean ====
module

public import proofs.«01_k».proof.Proof.Slots

/-! The ring's protocol: the semaphores' cells, the rounds of each, what each round hands over, and what a
    device owes. -/

@[expose] public section

set_option synthInstance.maxSize 4096

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

theorem lft_rgt (c : Dev nD) : lft (rgt c) = c := by revert c; decide
theorem rgt_lft (c : Dev nD) : rgt (lft c) = c := by revert c; decide
def ring : Dev nD ≃ Dev nD := ⟨rgt, lft, lft_rgt, rgt_lft⟩

/-- The device whose block `c` has after `h` hops. -/
def org (c : Dev nD) (h : ℕ) : Dev nD := lft^[h] c
theorem org_rgt (c : Dev nD) (h : ℕ) : org (rgt c) (h + 1) = org c h := by
  unfold org; rw [Function.iterate_succ_apply, lft_rgt]

theorem par_succ (h : ℕ) : par (h + 1) = !par h := by
  unfold par
  by_cases e : h % 2 = 1
  · rw [decide_eq_true e, decide_eq_false (by omega)]; rfl
  · rw [decide_eq_false e, decide_eq_true (by omega)]; rfl
theorem par_toNat (h : ℕ) : 2 * (h / 2) + (par h).toNat = h := by
  unfold par
  by_cases e : h % 2 = 1
  · rw [decide_eq_true e]; show 2 * (h / 2) + 1 = h; omega
  · rw [decide_eq_false e]; show 2 * (h / 2) + 0 = h; omega

/-! ## The cells -/

abbrev barS : Sem sig := (SemArray.scalar (sig.barrier 0 rfl) : Sems sig S_).sem
/-- A transfer's semaphores: 0 the blocks' departures, 1 their arrivals, 2 and 3 the acknowledgements'. -/
def dArr : Fin 4 → DmaSems sig S2
  | 0 => cc0_scratch1
  | 1 => cc0_scratch2
  | 2 => cc0_scratch4
  | 3 => cc0_scratch5
/-- A cell of a device: its barrier (`none`), or a slot of a pair of semaphores. -/
abbrev Cl := Option (Fin 4 × Bool)
def csem : Cl → SemLoc sig
  | none => .reg barS
  | some (k, b) => .dma (semSlot (dArr k) b)
abbrev cell (c : Dev nD) (k : Cl) : GSem nD τ sig := ((c : Thread nD τ), csem k)

def allCl : List Cl := [none, some (0, false), some (0, true), some (1, false), some (1, true), some (2, false), some (2, true), some (3, false), some (3, true)]
def kindOf (sm : SemLoc sig) : Option Cl := allCl.find? fun k => decide (csem k = sm)
theorem kindOf_csem : ∀ k : Cl, kindOf (csem k) = some k := by decide
theorem csem_injective : Function.Injective csem := fun a b h => by
  have := kindOf_csem a
  rw [h, kindOf_csem b] at this
  exact (Option.some.inj this).symm

abbrev Nkv : ℕ := (kvSlot kvM false).view.dmaCredit
abbrev Nack : ℕ := (ackSlot ackM false).view.dmaCredit
theorem Nkv_eq (b : Bool) : (kvSlot kvM b).view.dmaCredit = Nkv := by cases b <;> rfl
theorem Nack_eq (b : Bool) : (ackSlot ackM b).view.dmaCredit = Nack := by cases b <;> rfl
theorem Nkv_pos : 0 < Nkv := View.dmaCredit_pos _ (by decide)
theorem Nack_pos : 0 < Nack := View.dmaCredit_pos _ (by decide)

/-! ## The memory handed over -/

variable (Kc Vc : Dev nD → Vec F S1024x128 .bf16)

/-- The block device `c` has after `h` hops. -/
def blk (c : Dev nD) (h : ℕ) : (cc0_scratch0 : Ref sig .tc).ty.Contents (Elt F) := kvAt (Kc (org c h)) (Vc (org c h))

def kvPts (c : Dev nD) (b : Bool) (f : (cc0_scratch0 : Ref sig .tc).ty.Contents (Elt F)) : sProp 𝕄 :=
  ((c : Thread nD τ).loc cc0_scratch0) ↦[slotSet b]{fullShare} f
def kvAny (c : Dev nD) (b : Bool) : sProp 𝕄 := iprop(∃ f, kvPts c b f)
def ackAny (c : Dev nD) (b : Bool) : sProp 𝕄 :=
  iprop(∃ f : (cc0_scratch3 : Ref sig .tc).ty.Contents (Elt F), ((c : Thread nD τ).loc cc0_scratch3) ↦[ackSet b]{fullShare} f)
def pieceAny (c : Dev nD) (b : Bool) : sProp 𝕄 :=
  iprop(∃ f : (cc0_stg3_0 : Ref sig .tc).ty.Contents (Elt F), ((c : Thread nD τ).loc cc0_stg3_0) ↦[pieceSet b]{fullShare} f)

/-- What a device needs of its left neighbour's to acknowledge hop `j`. -/
def AckDst (c : Dev nD) (j : ℕ) : sProp 𝕄 :=
  if j < 30 then iprop(ackAny (lft c) (par j) ∗ reached ER (cell (lft c) (some (3, par j))) (j / 2)) else iprop(emp)
/-- What a device needs to send hop `j`: its right neighbour's slot; and its own acknowledgement slot, to pass on. -/
def AckGot (c : Dev nD) (j : ℕ) : sProp 𝕄 :=
  iprop(ackAny c (!par j) ∗ kvAny (rgt c) (!par j) ∗ reached ER (cell (rgt c) (some (1, !par j))) (j / 2))

instance (c : Dev nD) (b : Bool) (f) : BI.Storable (upEmb : UEmb _ 𝕄) (kvPts (F := F) c b f) := by unfold kvPts; infer_instance
instance (c : Dev nD) (b : Bool) : BI.Storable (upEmb : UEmb _ 𝕄) (kvAny (F := F) c b) := by unfold kvAny; infer_instance
instance (c : Dev nD) (b : Bool) : BI.Storable (upEmb : UEmb _ 𝕄) (ackAny (F := F) c b) := by unfold ackAny; infer_instance
instance (c : Dev nD) (b : Bool) : BI.Storable (upEmb : UEmb _ 𝕄) (pieceAny (F := F) c b) := by unfold pieceAny; infer_instance
instance (c : Dev nD) (j : ℕ) : BI.Storable (upEmb : UEmb _ 𝕄) (AckDst (F := F) c j) := by unfold AckDst; split <;> infer_instance
instance (c : Dev nD) (j : ℕ) : BI.Storable (upEmb : UEmb _ 𝕄) (AckGot (F := F) c j) := by unfold AckGot; infer_instance

/-! ## The schedule -/

/-- The hop of round `r` of a transfer's cell, the number of hops that use the cells of its kind. -/
def hopOf (k : Fin 4) (b : Bool) (r : ℕ) : ℕ := 2 * r + (if k = 1 then !b else b).toNat
def lim (k : Fin 4) : ℕ := if k.val < 2 then 31 else 30

def dutiesOf (k : Cl) (r : ℕ) : Finset Bool := match k with
  | none => if r = 0 then Finset.univ else ∅
  | some (k, b) => if hopOf k b r < lim k then {false} else ∅
def amountOf (k : Cl) : ℕ := match k with
  | none => 1
  | some (k, _) => if k.val < 2 then Nkv else Nack
def payOf (c : Dev nD) (k : Cl) (r : ℕ) (d : Bool) : sProp 𝕄 := match k with
  | none => if d then kvAny (rgt c) true else ackAny (lft c) false
  | some (0, b) => kvPts c b (blk Kc Vc c (hopOf 0 b r))
  | some (1, b) => iprop(kvPts c b (blk Kc Vc c (hopOf 1 b r + 1)) ∗ AckDst c (hopOf 1 b r + 1))
  | some (2, b) => pieceAny c b
  | some (3, b) => AckGot c (hopOf 3 b r + 1)

theorem amountOf_pos : ∀ k, 0 < amountOf k
  | none => Nat.one_pos
  | some (k, b) => by unfold amountOf; dsimp only; split; exacts [Nkv_pos, Nack_pos]

/-- The ring's rounds. -/
def ringRd : Rounds.Schedule (GSem nD τ sig) Bool 𝕄 where
  duties g r := if g.1.2 = .tc then (match kindOf g.2 with | some k => dutiesOf k r | none => ∅) else ∅
  unitless _ := False
  amount g _ _ := match kindOf g.2 with | some k => amountOf k | none => 1
  payload g r d := match kindOf g.2 with | some k => payOf Kc Vc g.1.1 k r d | none => iprop(emp)
  amount_pos g _ _ _ := by
    cases kindOf g.2 with
    | none => exact Nat.one_pos
    | some k => exact amountOf_pos k

instance payOf_storable (c : Dev nD) (k : Cl) (r : ℕ) (d : Bool) : BI.Storable (upEmb : UEmb _ 𝕄) (payOf Kc Vc c k r d) := by
  match k with
  | none => show BI.Storable upEmb (if d = true then kvAny (rgt c) true else ackAny (lft c) false); split <;> infer_instance
  | some (0, b) => unfold payOf; dsimp only; infer_instance
  | some (1, b) => unfold payOf; dsimp only; infer_instance
  | some (2, b) => unfold payOf; dsimp only; infer_instance
  | some (3, b) => unfold payOf; dsimp only; infer_instance

instance ringRd_payload_storable (g : GSem nD τ sig) (r : ℕ) (d : Bool) :
    BI.Storable (upEmb : UEmb _ 𝕄) ((ringRd Kc Vc).payload g r d) := by
  show BI.Storable upEmb (match kindOf g.2 with | some k => payOf Kc Vc g.1.1 k r d | none => iprop(emp))
  cases kindOf g.2 <;> dsimp only <;> infer_instance

theorem duties_cell (c : Dev nD) (k : Cl) (r : ℕ) : (ringRd Kc Vc).duties (cell c k) r = dutiesOf k r := by
  dsimp only [ringRd]; rw [if_pos rfl, kindOf_csem]
theorem amount_cell (c : Dev nD) (k : Cl) (r : ℕ) (d : Bool) : (ringRd Kc Vc).amount (cell c k) r d = amountOf k := by
  dsimp only [ringRd]; rw [kindOf_csem]
theorem payload_cell (c : Dev nD) (k : Cl) (r : ℕ) (d : Bool) : (ringRd Kc Vc).payload (cell c k) r d = payOf Kc Vc c k r d := by
  dsimp only [ringRd]; rw [kindOf_csem]

theorem duties_xfer (c : Dev nD) (k : Fin 4) (b : Bool) (r : ℕ) (h : hopOf k b r < lim k) : (ringRd Kc Vc).duties (cell c (some (k, b))) r = {false} := by
  rw [duties_cell]; exact if_pos h
theorem expect_xfer (c : Dev nD) (k : Fin 4) (b : Bool) (r : ℕ) (h : hopOf k b r < lim k) :
    (ringRd Kc Vc).expect (cell c (some (k, b))) r = amountOf (some (k, b)) := by
  unfold Schedule.expect Schedule.amountOf; rw [duties_xfer Kc Vc c k b r h, Finset.sum_singleton, amount_cell]
theorem expect_bar (c : Dev nD) : (ringRd Kc Vc).expect (cell c none) 0 = 2 := by
  unfold Schedule.expect Schedule.amountOf
  rw [duties_cell, show dutiesOf none 0 = Finset.univ from rfl, Finset.sum_congr rfl fun d _ => amount_cell Kc Vc c none 0 d]; rfl
theorem rest_xfer (c : Dev nD) (k : Fin 4) (b : Bool) (r : ℕ) (h : hopOf k b r < lim k) :
    bigSep ((ringRd Kc Vc).duties (cell c (some (k, b))) r \ ∅) (fun d => (ringRd Kc Vc).payload (cell c (some (k, b))) r d)
      = payOf Kc Vc c (some (k, b)) r false := by
  rw [Finset.sdiff_empty, duties_xfer Kc Vc c k b r h, bigSep_singleton, payload_cell]
theorem rest_bar (c : Dev nD) :
    bigSep ((ringRd Kc Vc).duties (cell c none) 0 \ ∅) (fun d => (ringRd Kc Vc).payload (cell c none) 0 d)
      = iprop(ackAny (lft c) false ∗ kvAny (rgt c) true) := by
  rw [Finset.sdiff_empty, duties_cell, show dutiesOf none 0 = Finset.univ from rfl, bigSep_univ_eq_bigSepL [false, true] (by decide) (by decide), bigSepL_cons_cons, bigSepL_singleton,
    payload_cell, payload_cell]
  rfl
theorem duties_end (c : Dev nD) (k : Cl) (r₀ : ℕ) (h : match k with | none => 1 ≤ r₀ | some (k, b) => lim k ≤ hopOf k b r₀) :
    ∀ r, r₀ ≤ r → (ringRd Kc Vc).duties (cell c k) r = ∅ := by
  intro r hr
  rw [duties_cell]
  match k, h with
  | none, h => exact if_neg (by dsimp only at h; omega)
  | some (k, b), h => exact if_neg (by dsimp only at h; unfold hopOf at h ⊢; omega)

/-! ## What a device owes; the levels -/

/-- What is owed: the blocks of the hops from `a` on, the acknowledgements of the hops from `b` on. -/
def owe (a b : ℕ) (c : Dev nD) : CellTallies nD τ sig ℕ :=
  (∑ j ∈ Finset.Ico a 31, tallyAt (cell (rgt c) (some (1, !par j))) j Nkv) + ∑ j ∈ Finset.Ico b 30, tallyAt (cell (lft c) (some (3, par j))) j Nack

theorem owe_kv {a b : ℕ} {c : Dev nD} (h : a < 31) : owe a b c = owe (a + 1) b c + tallyAt (cell (rgt c) (some (1, !par a))) a Nkv := by
  unfold owe; rw [Finset.sum_eq_sum_Ico_succ_bot h]; abel
theorem owe_ack {a b : ℕ} {c : Dev nD} (h : b < 30) : owe a b c = owe a (b + 1) c + tallyAt (cell (lft c) (some (3, par b))) b Nack := by
  unfold owe; rw [Finset.sum_eq_sum_Ico_succ_bot h, add_assoc]; congr 1; exact add_comm _ _
theorem owe_end {a b : ℕ} {c : Dev nD} (ha : 31 ≤ a) (hb : 30 ≤ b) : owe a b c = 0 := by
  unfold owe; rw [Finset.Ico_eq_empty_of_le ha, Finset.Ico_eq_empty_of_le hb, Finset.sum_empty, Finset.sum_empty, add_zero]
theorem owe_ack_end {a b b' : ℕ} {c : Dev nD} (hb : 30 ≤ b) (hb' : 30 ≤ b') : owe a b c = owe a b' c := by
  unfold owe; rw [Finset.Ico_eq_empty_of_le hb, Finset.Ico_eq_empty_of_le hb']

theorem sum_tally_pos {s : Finset ℕ} {G : ℕ → GSem nD τ sig} {n : ℕ} {g : GSem nD τ sig} {u : ℕ}
    (h : 0 < (∑ j ∈ s, (tallyAt (G j) j n : CellTallies nD τ sig ℕ)) g u) : u ∈ s ∧ g = G u := by
  rw [Finset.sum_apply, Finsupp.finsetSum_apply] at h
  obtain ⟨j, hj, hp⟩ := Finset.exists_ne_zero_of_sum_ne_zero (Nat.pos_iff_ne_zero.mp h)
  rw [tallyAt_apply] at hp
  by_cases e : g = G j ∧ u = j
  · obtain ⟨e1, e2⟩ := e; subst e2; exact ⟨hj, e1⟩
  · exact absurd (if_neg e) hp

theorem owe_pos {a b : ℕ} {c : Dev nD} {g : GSem nD τ sig} {u : ℕ} (h : 0 < owe a b c g u) :
    (u ∈ Finset.Ico a 31 ∧ g = cell (rgt c) (some (1, !par u))) ∨ (u ∈ Finset.Ico b 30 ∧ g = cell (lft c) (some (3, par u))) := by
  unfold owe at h
  rw [Pi.add_apply, Finsupp.add_apply] at h
  rcases Nat.add_pos_iff_pos_or_pos.mp h with h | h
  · exact Or.inl (sum_tally_pos h)
  · exact Or.inr (sum_tally_pos h)

/-- What is owed at the start: the two barrier units too. -/
def O₁ (c : Dev nD) : CellTallies nD τ sig ℕ := owe 0 0 c + tallyAt (cell (rgt c) none) 0 1
def O₀ (c : Dev nD) : CellTallies nD τ sig ℕ := O₁ c + tallyAt (cell (lft c) none) 0 1

def L (g : GSem nD τ sig) : Finset ℕ := if g.1.2 = .tc then Finset.range 31 else ∅
def lvOf (k : Cl) (j : ℕ) : ℕ := match k with
  | none => 1
  | some (k, _) => if k = 1 then 2 * j + 2 else if k = 3 then 2 * j + 3 else 0
def lv (g : GSem nD τ sig) (j : ℕ) : ℕ := match kindOf g.2 with | some k => lvOf k j | none => 0
theorem L_of_ne (g : GSem nD τ sig) (h : g.1.2 ≠ .tc) : L g = ∅ := if_neg h
theorem L_tc (c : Dev nD) (sm : SemLoc sig) : L ((c : Thread nD τ), sm) = Finset.range 31 := if_pos rfl
theorem lv_cell (c : Dev nD) (k : Cl) (j : ℕ) : lv (cell c k) j = lvOf k j := by unfold lv; rw [kindOf_csem]

theorem O₀_pos {c : Dev nD} {g : GSem nD τ sig} {u : ℕ} (h : 0 < O₀ c g u) :
    0 < owe 0 0 c g u ∨ ((g = cell (rgt c) none ∨ g = cell (lft c) none) ∧ u = 0) := by
  unfold O₀ O₁ at h
  rw [Pi.add_apply, Finsupp.add_apply, Pi.add_apply, Finsupp.add_apply, tallyAt_apply, tallyAt_apply] at h
  by_contra hn
  rw [not_or, not_and_or, not_or] at hn
  obtain ⟨h0, h1⟩ := hn
  have h0' := Nat.eq_zero_of_not_pos h0
  rw [h0'] at h
  have e1 : ¬ (g = cell (rgt c) none ∧ u = 0) := fun e => h1.elim (fun h => h.1 e.1) (fun h => h e.2)
  have e2 : ¬ (g = cell (lft c) none ∧ u = 0) := fun e => h1.elim (fun h => h.2 e.1) (fun h => h e.2)
  rw [if_neg e1, if_neg e2] at h
  exact Nat.lt_irrefl 0 h

theorem owe_above {a b n : ℕ} {c : Dev nD} (ha : n < 2 * a + 2) (hb : n < 2 * b + 3) {g : GSem nD τ sig} {u : ℕ} (h : 0 < owe a b c g u) :
    u ∈ L g ∧ n < lv g u := by
  rcases owe_pos h with ⟨hu, rfl⟩ | ⟨hu, rfl⟩
  · rw [L_tc, lv_cell]
    have := Finset.mem_Ico.mp hu
    exact ⟨Finset.mem_range.mpr (by omega), show n < 2 * u + 2 by omega⟩
  · rw [L_tc, lv_cell]
    have := Finset.mem_Ico.mp hu
    exact ⟨Finset.mem_range.mpr (by omega), show n < 2 * u + 3 by omega⟩

/-- A wait at a level below everything owed. -/
theorem mayWait (c : Dev nD) (k : Cl) (j n a b : ℕ) (hj : j < 31) (hn : lvOf k j ≤ n) (ha : n < 2 * a + 2) (hb : n < 2 * b + 3) :
    (levAts L lv : sProp 𝕄) ⊢ MayWait (c : Thread nD τ) (csem k) j (owe a b c) :=
  MayOwe.of_cut (L := L) (lev := lv) n (fun p hp => by rw [Finset.mem_singleton.mp hp, L_tc]; exact Finset.mem_range.mpr hj)
    (fun g u hg => (owe_above ha hb hg).1)
    (fun p hp => by rw [Finset.mem_singleton.mp hp]; exact (lv_cell c k j).le.trans hn)
    (fun g u hg => (owe_above ha hb hg).2)

theorem mayWait_stage (c : Dev nD) (q : DmaSem sig) (hq : kindOf (.dma q) = none) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp, L_tc]; exact Finset.mem_range.mpr (show 0 < 31 by decide))
      (fun g u hg => ?_)
      (fun p hp => by rw [Finset.mem_singleton.mp hp]; unfold lv; dsimp only; rw [hq])
      (fun g u hg => ?_)
    · rcases O₀_pos hg with h | ⟨h | h, hu⟩
      · exact (owe_above (n := 0) (by omega) (by omega) h).1
      · rw [h, hu, L_tc]; exact Finset.mem_range.mpr (by decide)
      · rw [h, hu, L_tc]; exact Finset.mem_range.mpr (by decide)
    · rcases O₀_pos hg with h | ⟨h | h, hu⟩
      · exact (owe_above (n := 0) (by omega) (by omega) h).2
      · rw [h, lv_cell]; exact Nat.one_pos
      · rw [h, lv_cell]; exact Nat.one_pos
  · rw [MayWait_zero]; iintro -; iempintro

end Cert.KernelIdeal.Ring
end
-- ==== Proof.Hops.lean ====
module

public import proofs.«01_k».proof.Proof.Proto

/-! One hop of the ring, and all of them, at a device of the ring: what the device holds before a hop and
    after it. The acknowledgements are sent from rows of the result's buffer. -/

@[expose] public section

set_option synthInstance.maxSize 4096
set_option maxRecDepth 40000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

abbrev 𝒱₀ : Variants := Variants.none

variable (D : Defs nD τ sig (Elt F) Λ₀) (Kc Vc : Dev nD → Vec F S1024x128 .bf16) (K : Dev nD × Cl → ℕ)

/-- What every device knows: the cells' invariants, that each is at round 0 or later, the levels. -/
def ctx : sProp 𝕄 :=
  iprop((bigSep Finset.univ fun ck : Dev nD × Cl => cellInv ER (ringRd Kc Vc) (K ck) (cell ck.1 ck.2))
    ∗ (bigSep Finset.univ fun ck : Dev nD × Cl => reached ER (cell ck.1 ck.2) 0) ∗ levAts L lv)
instance ctx_persistent : BI.Persistent (ctx Kc Vc K) := by unfold ctx; infer_instance

theorem ctx_inv (c : Dev nD) (k : Cl) : ctx Kc Vc K ⊢ cellInv ER (ringRd Kc Vc) (K (c, k)) (cell c k) := by
  unfold ctx
  iintro ⟨H, -, -⟩
  iapply (show (bigSep Finset.univ fun ck : Dev nD × Cl => (cellInv ER (ringRd Kc Vc) (K ck) (cell ck.1 ck.2) : sProp 𝕄)) ⊢ cellInv ER (ringRd Kc Vc) (K (c, k)) (cell c k)
    from bigSep_elim (Finset.mem_univ (c, k))); iexact H
theorem ctx_reached (c : Dev nD) (k : Cl) : ctx Kc Vc K ⊢ reached ER (cell c k) 0 := by
  unfold ctx
  iintro ⟨-, H, -⟩
  iapply (show (bigSep Finset.univ fun ck : Dev nD × Cl => (reached ER (cell ck.1 ck.2) 0 : sProp 𝕄)) ⊢ reached ER (cell c k) 0
    from bigSep_elim (Finset.mem_univ (c, k))); iexact H
theorem ctx_lev : ctx Kc Vc K ⊢ levAts L lv := by
  unfold ctx
  iintro ⟨-, -, H⟩
  iexact H

/-- The owner of a cell at the start of its round `r`. -/
def at_ (g : GSem nD τ sig) (r : ℕ) : sProp 𝕄 := iprop(atPos ER g r ∅ 0 ∗ reached ER g r)
/-- What a device owes, whatever it has waited for. -/
def owesE (c : Dev nD) (O : CellTallies nD τ sig ℕ) : sProp 𝕄 := iprop(∃ W, owes (c : Thread nD τ) O W)

theorem bigSep_Ico_head {a n : ℕ} (h : a < n) (Φ : ℕ → sProp 𝕄) :
    bigSep (Finset.Ico a n) Φ = iprop(Φ a ∗ bigSep (Finset.Ico (a + 1) n) Φ) := by
  rw [show Finset.Ico a n = insert a (Finset.Ico (a + 1) n) from (Finset.insert_Ico_add_one_left_eq_Ico h).symm]
  exact bigSep_insert (by simp)

theorem hop_send (h : ℕ) : hopOf 0 (par h) (h / 2) = h := par_toNat h
theorem hop_recv (h : ℕ) : hopOf 1 (!par h) (h / 2) = h := by
  unfold hopOf; rw [if_pos rfl, Bool.not_not]; exact par_toNat h
theorem hop_ackS (h : ℕ) : hopOf 2 (par h) (h / 2) = h := par_toNat h
theorem hop_ackR (h : ℕ) : hopOf 3 (par h) (h / 2) = h := par_toNat h

/-- A wait of a device on one of its cells, the round's payload got. -/
theorem wait_xfer (c : Dev nD) (k : Fin 4) (b : Bool) (r ι n : ℕ) (h : hopOf k b r < lim k) {O : CellTallies nD τ sig ℕ}
    {w : E0 (F := F) PUnit}
    (hw : ∀ R : PUnit → sProp 𝕄, wpE D 𝒱₀ (c : Thread nD τ) none Set.univ w R = waitSpec (c : Thread nD τ) Set.univ (csem (some (k, b))) n R)
    (hn : n = amountOf (some (k, b))) (hmay : (levAts L lv : sProp 𝕄) ⊢ MayWait (c : Thread nD τ) (csem (some (k, b))) ι O)
    {α : Type} {Q : α → sProp 𝕄} {kk : PUnit → Prog (E0 (F := F)) α} :
    iprop(ctx Kc Vc K ∗ cred (tallyAt (cell c (some (k, b))) ι n) ∗ owesE c O ∗ at_ (cell c (some (k, b))) r)
      ⊢ iprop(((owesE c O ∗ at_ (cell c (some (k, b))) (r + 1) ∗ payOf Kc Vc c (some (k, b)) r false)
            -∗ wp frame (wpE D 𝒱₀ (c : Thread nD τ) none) Set.univ (kk ⟨⟩) Q)
          -∗ wp frame (wpE D 𝒱₀ (c : Thread nD τ) none) Set.univ (.op w kk) Q) := by
  have h1 : ctx Kc Vc K ⊢ levAts L lv := ctx_lev Kc Vc K
  have h2 := h1.trans hmay
  unfold owesE at_
  iintro ⟨#Hc, Hcr, ⟨%W, HO⟩, Hat, -⟩ Hk
  iapply (Rounds.wp_wait_rest_token 𝒱₀ ER (ringRd Kc Vc) (c : Thread nD τ) none (κ := K (c, some (k, b))) hw (Set.mem_univ _) ι (O := O) (W := W) (R := r) (m := 0) (T := ∅)
      (by rw [Nat.zero_add, hn]; exact (expect_xfer Kc Vc c k b r h).symm)) $$ [Hcr HO Hat]
  · isplitr; · iapply (ctx_inv Kc Vc K c (some (k, b))); iexact Hc
    isplitl [Hcr]; · iexact Hcr
    isplitl [HO]; · iexact HO
    isplitr; · iapply h2; iexact Hc
    iexact Hat
  iintro ⟨HO, Hat, Hr, Hp⟩
  ihave Hp := (Entails.of_eq (rest_xfer Kc Vc c k b r h)) $$ Hp
  iapply Hk
  isplitl [HO]; · iexists _; iexact HO
  isplitl [Hat Hr]
  · isplitl [Hat] <;> iassumption
  iexact Hp

theorem land_kv (c : Dev nD) (p : Bool) (h : ℕ) (fd : (cc0_scratch0 : Ref sig .tc).ty.Contents (Elt F)) :
    (((rgt c : Thread nD τ).loc cc0_scratch0) ↦[slotSet (!p)]{fullShare}
        ((kvSlot kvM (!p)).view.write (Elt F) fd ((kvSlot kvM p).view.read (Elt F) (blk Kc Vc c h)) Finset.univ) : sProp 𝕄)
      ⊢ kvPts (rgt c) (!p) (blk Kc Vc (rgt c) (h + 1)) := by
  unfold kvPts blk
  rw [org_rgt]
  exact Entails.of_eq (pointsTo_congr (copy_slot p (!p) _ _ fd))

/-- The block of hop `h` sent to the right. -/
theorem kv_send (c : Dev nD) (h b : ℕ) (hh : h < 31) {hsc : (kvSlot kvM (!par h)).view.ref.isScScratch = false}
    {hsrc : (kvSlot kvM (par h)).view.WordExact} {hdst : (kvSlot kvM (!par h)).view.WordExact}
    {hsem : DmaTarget.Typed .vmem (csem (some (1, !par h))) (.remote (Dev.tc (rgt c) : Thread nD τ) (kvSlot kvM (!par h)) (csem (some (0, par h))) hsc)}
    {α : Type} {Q : α → sProp 𝕄} {kk : PUnit → Prog (E0 (F := F)) α} :
    iprop(ctx Kc Vc K ∗ kvPts c (par h) (blk Kc Vc c h) ∗ kvAny (rgt c) (!par h) ∗ AckDst (rgt c) (h + 1) ∗ owesE c (owe h b c)
        ∗ dutyTok ER (cell c (some (0, par h))) (h / 2) false ∗ reached ER (cell c (some (0, par h))) (h / 2)
        ∗ dutyTok ER (cell (rgt c) (some (1, !par h))) (h / 2) false ∗ reached ER (cell (rgt c) (some (1, !par h))) (h / 2))
      ⊢ iprop(((cred (tallyAt (cell c (some (0, par h))) 0 Nkv) ∗ owesE c (owe (h + 1) b c)) -∗ wp frame (wpE D 𝒱₀ (c : Thread nD τ) none) Set.univ (kk ⟨⟩) Q)
          -∗ wp frame (wpE D 𝒱₀ (c : Thread nD τ) none) Set.univ
              (.op (.enqueueDma (kvSlot kvM (par h)) (.remote (Dev.tc (rgt c) : Thread nD τ) (kvSlot kvM (!par h)) (csem (some (0, par h))) hsc) (csem (some (1, !par h))) hsrc hdst hsem) kk) Q) := by
  unfold owesE kvAny
  iintro ⟨#Hc, Hsrc, ⟨%fd, Hdst⟩, HF, ⟨%W, HO⟩, Ht1, Hr1, Ht2, Hr2⟩ Hk
  iapply (Rounds.wp_send_pointsTo_with 𝒱₀ ER (ringRd Kc Vc) (c : Thread nD τ) none (c' := (rgt c : Thread nD τ))
    (src := kvSlot kvM (par h)) (dst := kvSlot kvM (!par h))
    (sS := csem (some (0, par h))) (sem := csem (some (1, !par h))) (hsc := hsc) (hsrc := hsrc) (hdst := hdst) (hsem := hsem)
    (κ₁ := K (c, some (0, par h))) (κ₂ := K (rgt c, some (1, !par h)))
    (r₁ := h / 2) (r₂ := h / 2) (d₁ := false) (d₂ := false) (q := fullShare) (fs := blk Kc Vc c h) (fd := fd) (F := AckDst (rgt c) (h + 1))
    (by rw [duties_xfer Kc Vc c 0 _ _ (by rw [hop_send]; exact hh)]; exact Finset.mem_singleton_self _)
    (by rw [duties_xfer Kc Vc (rgt c) 1 _ _ (by rw [hop_recv]; exact hh)]; exact Finset.mem_singleton_self _)
    h 0 Nkv (Nkv_eq _) (amount_cell Kc Vc c _ _ _) (amount_cell Kc Vc (rgt c) _ _ _) (owe (h + 1) b c) (owe_kv hh) (W := W)
    (by rw [payload_cell]; show _ ⊢ kvPts c (par h) (blk Kc Vc c (hopOf 0 (par h) (h / 2))); rw [hop_send, set_slot]; exact BI.Entails.refl _)
    (by
      rw [payload_cell]
      show _ ⊢ iprop(kvPts (rgt c) (!par h) (blk Kc Vc (rgt c) (hopOf 1 (!par h) (h / 2) + 1)) ∗ AckDst (rgt c) (hopOf 1 (!par h) (h / 2) + 1))
      rw [hop_recv, set_slot]
      exact sep_mono_left (land_kv Kc Vc c (par h) h fd))) $$ [Hsrc Hdst HF HO Ht1 Hr1 Ht2 Hr2]
  · isplitr; · iapply (ctx_inv Kc Vc K c (some (0, par h))); iexact Hc
    isplitr; · iapply (ctx_inv Kc Vc K (rgt c) (some (1, !par h))); iexact Hc
    isplitl [Hsrc]; · unfold kvPts; rw [set_slot]; iexact Hsrc
    isplitl [Hdst HF]
    · isplitl [Hdst]; · unfold kvPts; rw [set_slot]; iexact Hdst
      iexact HF
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hcr]; · iexact Hcr
  iexists _; iexact HO

/-- The acknowledgement of hop `h` sent to the left: it hands over the device's own slot. -/
theorem ack_send (c : Dev nD) (h a : ℕ) (hh : h < 30) {hsc : (ackSlot ackM (par h)).view.ref.isScScratch = false}
    {hsrc : (piece (par h)).view.WordExact} {hdst : (ackSlot ackM (par h)).view.WordExact}
    {hsem : DmaTarget.Typed .vmem (csem (some (3, par h))) (.remote (Dev.tc (lft c) : Thread nD τ) (ackSlot ackM (par h)) (csem (some (2, par h))) hsc)}
    {α : Type} {Q : α → sProp 𝕄} {kk : PUnit → Prog (E0 (F := F)) α} :
    iprop(ctx Kc Vc K ∗ pieceAny c (par h) ∗ ackAny (lft c) (par h) ∗ (kvAny c (par h) ∗ reached ER (cell c (some (1, par h))) ((h + 1) / 2)) ∗ owesE c (owe a h c)
        ∗ dutyTok ER (cell c (some (2, par h))) (h / 2) false ∗ reached ER (cell c (some (2, par h))) (h / 2)
        ∗ dutyTok ER (cell (lft c) (some (3, par h))) (h / 2) false ∗ reached ER (cell (lft c) (some (3, par h))) (h / 2))
      ⊢ iprop(((cred (tallyAt (cell c (some (2, par h))) 0 Nack) ∗ owesE c (owe a (h + 1) c)) -∗ wp frame (wpE D 𝒱₀ (c : Thread nD τ) none) Set.univ (kk ⟨⟩) Q)
          -∗ wp frame (wpE D 𝒱₀ (c : Thread nD τ) none) Set.univ
              (.op (.enqueueDma (piece (par h)) (.remote (Dev.tc (lft c) : Thread nD τ) (ackSlot ackM (par h)) (csem (some (2, par h))) hsc) (csem (some (3, par h))) hsrc hdst hsem) kk) Q) := by
  unfold owesE pieceAny
  iintro ⟨#Hc, ⟨%fs, Hsrc⟩, Hdst, HF, ⟨%W, HO⟩, Ht1, Hr1, Ht2, Hr2⟩ Hk
  ihave Hdst := (show (ackAny (lft c) (par h) : sProp 𝕄) ⊢ iprop(∃ f : (cc0_scratch3 : Ref sig .tc).ty.Contents (Elt F), ((lft c : Thread nD τ).loc cc0_scratch3) ↦[ackSet (par h)]{fullShare} f) from BI.Entails.refl _) $$ Hdst
  icases Hdst with ⟨%fd, Hdst⟩
  iapply (Rounds.wp_send_pointsTo_with 𝒱₀ ER (ringRd Kc Vc) (c : Thread nD τ) none (c' := (lft c : Thread nD τ))
    (src := piece (par h)) (dst := ackSlot ackM (par h))
    (sS := csem (some (2, par h))) (sem := csem (some (3, par h))) (hsc := hsc) (hsrc := hsrc) (hdst := hdst) (hsem := hsem)
    (κ₁ := K (c, some (2, par h))) (κ₂ := K (lft c, some (3, par h)))
    (r₁ := h / 2) (r₂ := h / 2) (d₁ := false) (d₂ := false) (q := fullShare) (fs := fs) (fd := fd)
    (F := iprop(kvAny c (par h) ∗ reached ER (cell c (some (1, par h))) ((h + 1) / 2)))
    (by rw [duties_xfer Kc Vc c 2 _ _ (by rw [hop_ackS]; exact hh)]; exact Finset.mem_singleton_self _)
    (by rw [duties_xfer Kc Vc (lft c) 3 _ _ (by rw [hop_ackR]; exact hh)]; exact Finset.mem_singleton_self _)
    h 0 Nack (Nack_eq _) (amount_cell Kc Vc c _ _ _) (amount_cell Kc Vc (lft c) _ _ _) (owe a (h + 1) c) (owe_ack hh) (W := W)
    (by
      rw [payload_cell, set_piece]
      show _ ⊢ pieceAny c (par h)
      unfold pieceAny
      iintro H; iexists fs; iexact H)
    (by
      rw [payload_cell, set_ack]
      show _ ⊢ AckGot (lft c) (hopOf 3 (par h) (h / 2) + 1)
      rw [hop_ackR]
      unfold AckGot
      rw [par_succ, Bool.not_not, rgt_lft]
      iintro ⟨H, H2, H3⟩
      isplitl [H]; · unfold ackAny; iexists _; iexact H
      isplitl [H2] <;> iassumption)) $$ [Hsrc Hdst HF HO Ht1 Hr1 Ht2 Hr2]
  · isplitr; · iapply (ctx_inv Kc Vc K c (some (2, par h))); iexact Hc
    isplitr; · iapply (ctx_inv Kc Vc K (lft c) (some (3, par h))); iexact Hc
    isplitl [Hsrc]; · rw [set_piece]; iexact Hsrc
    isplitl [Hdst HF]
    · isplitl [Hdst]; · rw [set_ack]; iexact Hdst
      iexact HF
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hcr]; · iexact Hcr
  iexists _; iexact HO

end Cert.KernelIdeal.Ring
end
-- ==== Proof.Hop.lean ====
module

public import proofs.«01_k».proof.Proof.Hops

/-! What a device holds before hop `h`, and that a hop takes it to the next. -/

@[expose] public section

set_option synthInstance.maxSize 4096
set_option maxRecDepth 40000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (D : Defs nD τ sig (Elt F) Λ₀) (Kc Vc : Dev nD → Vec F S1024x128 .bf16) (K : Dev nD × Cl → ℕ)

/-! ## What is held -/

/-- The owner's places in its transfers' cells before hop `h`. -/
def Pos (c : Dev nD) (h : ℕ) : sProp 𝕄 :=
  iprop(at_ (cell c (some (0, par h))) (h / 2) ∗ at_ (cell c (some (0, !par h))) ((h + 1) / 2)
    ∗ at_ (cell c (some (1, par h))) ((h + 1) / 2) ∗ at_ (cell c (some (1, !par h))) (h / 2)
    ∗ at_ (cell c (some (3, par h))) (h / 2) ∗ at_ (cell c (some (3, !par h))) ((h - 1) / 2))

/-- The source of the acknowledgements of slot `b` after `n` of them: at hand, or under way. -/
def AS (c : Dev nD) (b : Bool) : ℕ → sProp 𝕄
  | 0 => iprop(pieceAny c b ∗ at_ (cell c (some (2, b))) 0)
  | n + 1 => iprop(cred (tallyAt (cell c (some (2, b))) 0 Nack) ∗ at_ (cell c (some (2, b))) n)
def AckS (c : Dev nD) (h : ℕ) : sProp 𝕄 := iprop(AS c (par h) (h / 2) ∗ AS c (!par h) ((h + 1) / 2))

/-- The duties and credits of the hops to come. -/
def FutK (c : Dev nD) (h : ℕ) : sProp 𝕄 := bigSep (Finset.Ico h 31) fun j =>
  iprop(dutyTok ER (cell c (some (0, par j))) (j / 2) false ∗ dutyTok ER (cell (rgt c) (some (1, !par j))) (j / 2) false
    ∗ cred (tallyAt (cell c (some (1, !par j))) j Nkv))
def FutA (c : Dev nD) (h : ℕ) : sProp 𝕄 := bigSep (Finset.Ico h 30) fun j =>
  iprop(dutyTok ER (cell c (some (2, par j))) (j / 2) false ∗ dutyTok ER (cell (lft c) (some (3, par j))) (j / 2) false)
def FutC (c : Dev nD) (h : ℕ) : sProp 𝕄 := bigSep (Finset.Ico (h - 1) 30) fun j =>
  cred (tallyAt (cell c (some (3, par j))) j Nack)

/-- What the last hops leave: slots nobody is to be given any more. -/
def Kept (c : Dev nD) (h : ℕ) : sProp 𝕄 :=
  iprop((if 29 < h then ackAny c false else iprop(emp)) ∗ (if 30 < h then iprop(ackAny c true ∗ kvAny c false) else iprop(emp)))

/-- What a device holds before hop `h`. -/
def HopSt (c : Dev nD) (h : ℕ) : sProp 𝕄 :=
  iprop(kvPts c (par h) (blk Kc Vc c h) ∗ (if h = 0 then AckGot c 0 else iprop(emp)) ∗ AckDst c h
    ∗ Pos c h ∗ AckS c (min h 30) ∗ FutK c h ∗ FutA c h ∗ FutC c h ∗ Kept c h ∗ owesE c (owe h h c))

theorem kept_step (c : Dev nD) (h : ℕ) (hh : h < 31) :
    iprop(Kept c h ∗ (if h + 1 < 30 then iprop(emp) else ackAny c (!par h)) ∗ (if h < 30 then iprop(emp) else kvAny c (par h)))
      ⊢ (Kept c (h + 1) : sProp 𝕄) := by
  unfold Kept
  rcases (show h < 29 ∨ h = 29 ∨ h = 30 by omega) with e | rfl | rfl
  · rw [if_neg (by omega), if_neg (by omega), if_pos (by omega), if_pos (by omega), if_neg (by omega), if_neg (by omega)]
    iintro -
    isplitl <;> iempintro
  · rw [if_neg (by omega), if_neg (by omega), if_neg (by omega), if_pos (by omega), if_pos (by omega), if_neg (by omega)]
    iintro ⟨-, H, -⟩
    isplitl [H]; · iexact H
    iempintro
  · rw [if_pos (by omega), if_neg (by omega), if_neg (by omega), if_neg (by omega), if_pos (by omega), if_pos (by omega)]
    iintro ⟨⟨H1, -⟩, H2, H3⟩
    isplitl [H1]; · iexact H1
    isplitl [H2]; · iexact H2
    iexact H3

/-! ## The phases of a hop -/

/-- The acknowledgement of the hop before, waited for. -/
theorem getAck (c : Dev nD) (h : ℕ) (hh : h < 31) {α : Type} {Q : α → sProp 𝕄} {kk : PUnit → Prog (E0 (F := F)) α} :
    iprop(ctx Kc Vc K ∗ (if h = 0 then AckGot c 0 else iprop(emp)) ∗ at_ (cell c (some (3, !par h))) ((h - 1) / 2) ∗ FutC c h ∗ owesE c (owe h h c))
      ⊢ iprop(((AckGot c h ∗ at_ (cell c (some (3, !par h))) ((h + 1) / 2) ∗ FutC c (h + 1) ∗ owesE c (owe h h c))
            -∗ wp frame (wpE D 𝒱₀ (c : Thread nD τ) none) Set.univ (kk ⟨⟩) Q)
          -∗ wp frame (wpE D 𝒱₀ (c : Thread nD τ) none) Set.univ ((if 1 ≤ h then ackWait ackM cc0_scratch5 (!par h) else pure ⟨⟩) >>= kk) Q) := by
  cases h with
  | zero =>
    rw [if_pos rfl, if_neg (by omega)]
    iintro ⟨-, Hg, Ha, Hf, HO⟩ Hk
    simp only [Prog.pure_eq_ret, Prog.bind_ret]
    iapply Hk
    isplitl [Hg]; · iexact Hg
    isplitl [Ha]; · iexact Ha
    isplitl [Hf]; · iexact Hf
    iexact HO
  | succ j =>
    rw [if_neg (by omega), if_pos (by omega), par_succ, Bool.not_not, show j + 1 - 1 = j from rfl]
    unfold FutC ackWait
    rw [show j + 1 - 1 = j from rfl, bigSep_Ico_head (by omega)]
    simp only [Prog.lift, Prog.bind_op, Prog.bind_ret]
    iintro ⟨#Hc, -, Ha, ⟨Hcr, Hf⟩, HO⟩ Hk
    iapply (wait_xfer D Kc Vc K c 3 (par j) (j / 2) j Nack (by rw [hop_ackR]; show j < 30; omega) (O := owe (j + 1) (j + 1) c)
      (fun R => (wpE_waitDma2_eq 𝒱₀ (c : Thread nD τ) none Set.univ R).trans (by rw [Nack_eq]; rfl)) rfl
      (mayWait c (some (3, par j)) j (2 * j + 3) (j + 1) (j + 1) (by omega) (le_refl _) (by omega) (by omega))) $$ [Hcr HO Ha]
    · isplitr; · iexact Hc
      isplitl [Hcr]; · iexact Hcr
      isplitl [HO] <;> iassumption
    iintro ⟨HO, Ha, Hp⟩
    iapply Hk
    isplitl [Hp]
    · ihave Hp := (show payOf Kc Vc c (some (3, par j)) (j / 2) false ⊢ AckGot c (j + 1) from Entails.of_eq (by
        show AckGot c (hopOf 3 (par j) (j / 2) + 1) = _; rw [hop_ackR])) $$ Hp
      iexact Hp
    isplitl [Ha]
    · rw [show (j + 1 + 1) / 2 = j / 2 + 1 by omega]; iexact Ha
    isplitl [Hf]; · iexact Hf
    iexact HO

theorem ackPhase_eq (c : Dev nD) (h : ℕ) :
    ackPhase (F := F) ackM cc0_scratch4 cc0_scratch5 piece pieceExact c h
      = if h < 30 then ((if 2 ≤ h then ackWait ackM cc0_scratch4 (par h) else pure ⟨⟩) >>= fun _ => ackSend ackM cc0_scratch4 cc0_scratch5 piece pieceExact c (par h))
        else pure ⟨⟩ := by
  unfold ackPhase
  by_cases h1 : h < 30
  · rw [if_pos h1, if_pos h1]
    by_cases h2 : 2 ≤ h
    · rw [if_pos h2, if_pos h2]
    · rw [if_neg h2, if_neg h2]; rfl
  · rw [if_neg h1, if_neg h1]

theorem hop_eq (c : Dev nD) (q : FVec F S1024x128 .bf16) (h : ℕ) (s : Acc F) :
    hop (F := F) kvM (Memref.isWhole_whole _) cc0_scratch1 cc0_scratch2 ackM cc0_scratch4 cc0_scratch5 piece pieceExact c q h s
      = ((if 1 ≤ h then ackWait ackM cc0_scratch5 (!par h) else pure ⟨⟩) >>= fun _ => do
        kvSend kvM (Memref.isWhole_whole _) cc0_scratch1 cc0_scratch2 c (par h)
        kvWaitSend kvM (Memref.isWhole_whole _) cc0_scratch1 (par h)
        kvWaitRecv kvM (Memref.isWhole_whole _) cc0_scratch2 (par h)
        ackPhase ackM cc0_scratch4 cc0_scratch5 piece pieceExact c h
        let k : Vec F S1x1024x128 .bf16 ← Prog.lift (.load kvM (kRect (!par h)).toLoadRect (View.loadsAt_vmem h_S1x1024x128))
        let v : Vec F S1x1024x128 .bf16 ← Prog.lift (.load kvM (vRect (!par h)).toLoadRect (View.loadsAt_vmem h_S1x1024x128))
        pure (s.step q k v)) := by
  unfold hop
  by_cases h2 : 1 ≤ h
  · rw [if_pos h2, if_pos h2]
  · rw [if_neg h2, if_neg h2]; rfl

/-- The acknowledgement of the hop `h`, sent. -/
theorem ack_phase (c : Dev nD) (h : ℕ) (hh : h < 31) {α : Type} {Q : α → sProp 𝕄} {kk : PUnit → Prog (E0 (F := F)) α} :
    iprop(ctx Kc Vc K ∗ AckDst c h ∗ kvAny c (par h) ∗ reached ER (cell c (some (1, par h))) ((h + 1) / 2)
        ∗ AckS c (min h 30) ∗ FutA c h ∗ owesE c (owe (h + 1) h c))
      ⊢ iprop((((if h < 30 then iprop(emp) else kvAny c (par h)) ∗ AckS c (min (h + 1) 30) ∗ FutA c (h + 1) ∗ owesE c (owe (h + 1) (h + 1) c))
            -∗ wp frame (wpE D 𝒱₀ (c : Thread nD τ) none) Set.univ (kk ⟨⟩) Q)
          -∗ wp frame (wpE D 𝒱₀ (c : Thread nD τ) none) Set.univ (ackPhase ackM cc0_scratch4 cc0_scratch5 piece pieceExact c h >>= kk) Q) := by
  rw [ackPhase_eq]
  by_cases h30 : h < 30
  · rw [if_pos h30, if_pos h30]
    unfold AckDst AckS FutA
    rw [if_pos h30, bigSep_Ico_head h30, Nat.min_eq_left (by omega), Nat.min_eq_left (by omega), par_succ, Bool.not_not,
      show (h + 1 + 1) / 2 = h / 2 + 1 by omega]
    -- the source at hand again
    have get : ∀ (kk' : PUnit → Prog (E0 (F := F)) α) (O' : CellTallies nD τ sig ℕ), O' = owe (h + 1) h c →
        iprop(ctx Kc Vc K ∗ AS c (par h) (h / 2) ∗ owesE c O')
        ⊢ iprop(((pieceAny c (par h) ∗ at_ (cell c (some (2, par h))) (h / 2) ∗ owesE c O')
              -∗ wp frame (wpE D 𝒱₀ (c : Thread nD τ) none) Set.univ (kk' ⟨⟩) Q)
            -∗ wp frame (wpE D 𝒱₀ (c : Thread nD τ) none) Set.univ ((if 2 ≤ h then ackWait ackM cc0_scratch4 (par h) else pure ⟨⟩) >>= kk') Q) := by
      intro kk' O' hO'
      by_cases h2 : 2 ≤ h
      · rw [if_pos h2]
        obtain ⟨n, hn⟩ : ∃ n, h / 2 = n + 1 := ⟨h / 2 - 1, by omega⟩
        rw [hn]
        unfold AS ackWait
        simp only [Prog.lift, Prog.bind_op, Prog.bind_ret]
        iintro ⟨#Hc, ⟨Hcr, Ha⟩, HO⟩ Hk
        iapply (wait_xfer D Kc Vc K c 2 (par h) n 0 Nack (by
            have := hop_ackS h; unfold hopOf at this ⊢; unfold lim; rw [if_neg (by decide)] at this ⊢; rw [if_neg (by decide)]; omega) (O := O')
          (fun R => (wpE_waitDma2_eq 𝒱₀ (c : Thread nD τ) none Set.univ R).trans (by rw [Nack_eq]; rfl)) rfl
          (by rw [hO']; exact mayWait c (some (2, par h)) 0 0 (h + 1) h (by omega) (le_refl _) (by omega) (by omega))) $$ [Hcr HO Ha]
        · isplitr; · iexact Hc
          isplitl [Hcr]; · iexact Hcr
          isplitl [HO] <;> iassumption
        iintro ⟨HO, Ha, Hp⟩
        iapply Hk
        isplitl [Hp]
        · ihave Hp := (show payOf Kc Vc c (some (2, par h)) n false ⊢ pieceAny c (par h) from BI.Entails.refl _) $$ Hp
          iexact Hp
        isplitl [Ha] <;> iassumption
      · rw [if_neg h2, show h / 2 = 0 by omega]
        unfold AS
        simp only [Prog.pure_eq_ret, Prog.bind_ret]
        iintro ⟨-, ⟨Hp, Ha⟩, HO⟩ Hk
        iapply Hk
        isplitl [Hp]; · iexact Hp
        isplitl [Ha] <;> iassumption
    iintro ⟨#Hc, ⟨Hdst, Hrd⟩, Hkv, Hrv, ⟨HS1, HS2⟩, ⟨⟨Ht1, Ht2⟩, Hf⟩, HO⟩ Hk
    rw [show ∀ x : Prog (E0 (F := F)) PUnit, ((x >>= fun _ => ackSend ackM cc0_scratch4 cc0_scratch5 piece pieceExact c (par h)) >>= kk)
      = x >>= fun u => (ackSend ackM cc0_scratch4 cc0_scratch5 piece pieceExact c (par h) >>= kk) from fun x => bind_assoc _ _ _]
    iapply (get _ _ rfl) $$ [HS1 HO]
    · isplitr; · iexact Hc
      isplitl [HS1] <;> iassumption
    iintro ⟨Hp, Ha, HO⟩
    unfold at_
    icases Ha with ⟨Ha, #Hra⟩
    unfold ackSend
    simp only [Prog.lift, Prog.bind_op, Prog.bind_ret]
    iapply (ack_send D Kc Vc K c h (h + 1) h30) $$ [Hp Hdst Hrd Hkv Hrv HO Ht1 Ht2]
    · isplitr; · iexact Hc
      isplitl [Hp]; · iexact Hp
      isplitl [Hdst]; · iexact Hdst
      isplitl [Hkv Hrv]
      · isplitl [Hkv] <;> iassumption
      isplitl [HO]; · iexact HO
      isplitl [Ht1]; · iexact Ht1
      isplitr; · iexact Hra
      isplitl [Ht2] <;> iassumption
    iintro ⟨Hcr, HO⟩
    iapply Hk
    isplitr; · iempintro
    isplitl [HS2 Hcr Ha]
    · isplitl [HS2]; · iexact HS2
      unfold AS at_
      isplitl [Hcr]; · iexact Hcr
      isplitl [Ha]; · iexact Ha
      iexact Hra
    isplitl [Hf]; · iexact Hf
    iexact HO
  · rw [if_neg h30, if_neg h30, owe_ack_end (b := h) (b' := h + 1) (by omega) (by omega), show min h 30 = min (h + 1) 30 by omega]
    unfold FutA
    rw [Finset.Ico_eq_empty_of_le (show 30 ≤ h by omega), Finset.Ico_eq_empty_of_le (show 30 ≤ h + 1 by omega)]
    simp only [Prog.pure_eq_ret, Prog.bind_ret]
    iintro ⟨-, -, Hkv, -, HS, Hf, HO⟩ Hk
    iapply Hk
    isplitl [Hkv]; · iexact Hkv
    isplitl [HS]; · iexact HS
    isplitl [Hf] <;> iassumption

theorem ackDst_intro (c : Dev nD) (h : ℕ) :
    iprop((if h + 1 < 30 then ackAny c (!par h) else iprop(emp)) ∗ reached ER (cell c (some (3, !par h))) ((h + 1) / 2))
      ⊢ (AckDst (rgt c) (h + 1) : sProp 𝕄) := by
  unfold AckDst
  rw [lft_rgt, par_succ]
  by_cases e : h + 1 < 30
  · rw [if_pos e, if_pos e]
  · rw [if_neg e, if_neg e]; iintro -; iempintro

/-- A hop takes a device from what it holds before it to what it holds before the next. -/
theorem hop_spec (c : Dev nD) (h : ℕ) (hh : h < 31) (q : FVec F S1024x128 .bf16) (s : Acc F) {α : Type} {Q : α → sProp 𝕄} {kk : Acc F → Prog (E0 (F := F)) α} :
    iprop(ctx Kc Vc K ∗ HopSt Kc Vc c h)
      ⊢ iprop((HopSt Kc Vc c (h + 1) -∗ wp frame (wpE D 𝒱₀ (c : Thread nD τ) none) Set.univ
              (kk (s.step q (k0_pay2 (Kc (org c (h + 1)))) (k0_pay3 (Vc (org c (h + 1)))))) Q)
          -∗ wp frame (wpE D 𝒱₀ (c : Thread nD τ) none) Set.univ
              (hop kvM (Memref.isWhole_whole _) cc0_scratch1 cc0_scratch2 ackM cc0_scratch4 cc0_scratch5 piece pieceExact c q h s >>= kk) Q) := by
  rw [hop_eq]
  simp only [bind_assoc]
  unfold HopSt Pos FutK
  rw [bigSep_Ico_head hh, par_succ, Bool.not_not, if_neg (Nat.succ_ne_zero h), show (h + 1 + 1) / 2 = h / 2 + 1 by omega, show h + 1 - 1 = h from rfl]
  iintro ⟨#Hc, Hkv, Hg, Hd, ⟨Hs1, Hs2, Hv1, Hv2, Ha1, Ha2⟩, HS, ⟨⟨Ht1, Ht2, HcV⟩, HfK⟩, HfA, HfC, Hkp, HO⟩ Hk
  -- the acknowledgement of the hop before
  iapply (getAck D Kc Vc K c h hh) $$ [Hg Ha2 HfC HO]
  · isplitr; · iexact Hc
    isplitl [Hg]; · iexact Hg
    isplitl [Ha2]; · iexact Ha2
    isplitl [HfC] <;> iassumption
  iintro ⟨Hg, Ha2, HfC, HO⟩
  unfold AckGot
  icases Hg with ⟨Hack, Hkvr, #Hrr⟩
  -- what of it is passed on with the block
  ihave Hpass := (show (ackAny c (!par h) : sProp 𝕄) ⊢ iprop((if h + 1 < 30 then ackAny c (!par h) else iprop(emp)) ∗ (if h + 1 < 30 then iprop(emp) else ackAny c (!par h))) from by
    by_cases e : h + 1 < 30
    · rw [if_pos e, if_pos e]; iintro H; isplitl [H]; · iexact H
      iempintro
    · rw [if_neg e, if_neg e]; iintro H; isplitr; · iempintro
      iexact H) $$ Hack
  icases Hpass with ⟨Hpass, Hkeep⟩
  unfold at_
  icases Hs1 with ⟨Hs1, #Hrs1⟩
  icases Ha2 with ⟨Ha2, #Hra2⟩
  icases Hv1 with ⟨Hv1, #Hrv1⟩
  unfold kvSend
  simp only [Prog.lift, Prog.bind_op, Prog.bind_ret]
  iapply (kv_send D Kc Vc K c h h hh) $$ [Hkv Hkvr Hpass HO Ht1 Ht2]
  · isplitr; · iexact Hc
    isplitl [Hkv]; · iexact Hkv
    isplitl [Hkvr]; · iexact Hkvr
    isplitl [Hpass]
    · iapply (ackDst_intro c h)
      isplitl [Hpass]; · iexact Hpass
      iexact Hra2
    isplitl [HO]; · iexact HO
    isplitl [Ht1]; · iexact Ht1
    isplitr; · iexact Hrs1
    isplitl [Ht2]; · iexact Ht2
    iexact Hrr
  iintro ⟨HcS, HO⟩
  -- the block sent is the device's again
  unfold kvWaitSend
  simp only [Prog.lift, Prog.bind_op, Prog.bind_ret]
  iapply (wait_xfer D Kc Vc K c 0 (par h) (h / 2) 0 Nkv (by rw [hop_send]; exact hh) (O := owe (h + 1) h c)
    (fun R => (wpE_waitDma2_eq 𝒱₀ (c : Thread nD τ) none Set.univ R).trans (by rw [Nkv_eq]; rfl)) rfl
    (mayWait c (some (0, par h)) 0 0 (h + 1) h (by omega) (le_refl _) (by omega) (by omega))) $$ [HcS HO Hs1]
  · isplitr; · iexact Hc
    isplitl [HcS]; · iexact HcS
    isplitl [HO]; · iexact HO
    unfold at_
    isplitl [Hs1]; · iexact Hs1
    iexact Hrs1
  iintro ⟨HO, Hs1, Hkv⟩
  -- the next one has come
  unfold kvWaitRecv
  simp only [Prog.lift, Prog.bind_op, Prog.bind_ret]
  iapply (wait_xfer D Kc Vc K c 1 (!par h) (h / 2) h Nkv (by rw [hop_recv]; exact hh) (O := owe (h + 1) h c)
    (fun R => (wpE_waitDma2_eq 𝒱₀ (c : Thread nD τ) none Set.univ R).trans (by rw [Nkv_eq]; rfl)) rfl
    (mayWait c (some (1, !par h)) h (2 * h + 2) (h + 1) h hh (le_refl _) (by omega) (by omega))) $$ [HcV HO Hv2]
  · isplitr; · iexact Hc
    isplitl [HcV]; · iexact HcV
    isplitl [HO]; · iexact HO
    unfold at_
    iexact Hv2
  iintro ⟨HO, Hv2, Hp⟩
  ihave Hp := (show payOf Kc Vc c (some (1, !par h)) (h / 2) false ⊢ iprop(kvPts c (!par h) (blk Kc Vc c (h + 1)) ∗ AckDst c (h + 1)) from Entails.of_eq (by
    show iprop(kvPts c (!par h) (blk Kc Vc c (hopOf 1 (!par h) (h / 2) + 1)) ∗ AckDst c (hopOf 1 (!par h) (h / 2) + 1)) = _; rw [hop_recv])) $$ Hp
  icases Hp with ⟨Hnew, Hd'⟩
  ihave Hkv := (show payOf Kc Vc c (some (0, par h)) (h / 2) false ⊢ kvAny c (par h) from by
    show kvPts c (par h) _ ⊢ _; unfold kvAny; iintro H; iexists _; iexact H) $$ Hkv
  -- the acknowledgement of this hop
  iapply (ack_phase D Kc Vc K c h hh) $$ [Hd Hkv HS HfA HO]
  · isplitr; · iexact Hc
    isplitl [Hd]; · iexact Hd
    isplitl [Hkv]; · iexact Hkv
    isplitr; · iexact Hrv1
    isplitl [HS]; · iexact HS
    isplitl [HfA] <;> iassumption
  iintro ⟨Hkeep2, HS, HfA, HO⟩
  -- the loads of the block that came
  unfold kvPts
  iapply (wp_load_rect 𝒱₀ (c : Thread nD τ) none Set.univ (m := kvM) (r := kRect (!par h)) (k_sub (!par h))) $$ Hnew
  iintro Hnew
  unfold blk
  rw [read_k]
  iapply (wp_load_rect 𝒱₀ (c : Thread nD τ) none Set.univ (m := kvM) (r := vRect (!par h)) (v_sub (!par h))) $$ Hnew
  iintro Hnew
  rw [read_v]
  simp only [Prog.pure_eq_ret, Prog.bind_ret]
  iapply Hk
  isplitl [Hnew]; · iexact Hnew
  isplitr; · iempintro
  isplitl [Hd']; · iexact Hd'
  isplitl [Hs1 Hs2 Hv1 Hv2 Ha1 Ha2]
  · unfold at_
    isplitl [Hs2]; · iexact Hs2
    isplitl [Hs1]; · iexact Hs1
    isplitl [Hv2]; · iexact Hv2
    isplitl [Hv1]
    · isplitl [Hv1]; · iexact Hv1
      iexact Hrv1
    isplitl [Ha2]
    · isplitl [Ha2]; · iexact Ha2
      iexact Hra2
    iexact Ha1
  isplitl [HS]; · iexact HS
  isplitl [HfK]; · iexact HfK
  isplitl [HfA]; · iexact HfA
  isplitl [HfC]; · iexact HfC
  isplitl [Hkp Hkeep Hkeep2]
  · iapply (kept_step c h hh)
    isplitl [Hkp]; · iexact Hkp
    isplitl [Hkeep] <;> iassumption
  iexact HO

/-- The loop's carried values after `n` hops from hop `h`. -/
def accFrom (c : Dev nD) (q : FVec F S1024x128 .bf16) : ℕ → ℕ → Acc F → Acc F
  | 0, _, s => s
  | n + 1, h, s => accFrom c q n (h + 1) (s.step q (k0_pay2 (Kc (org c (h + 1)))) (k0_pay3 (Vc (org c (h + 1)))))

theorem hops_spec (c : Dev nD) (q : FVec F S1024x128 .bf16) {α : Type} {Q : α → sProp 𝕄} : ∀ (n h : ℕ) (hh : h + n ≤ 31) (s : Acc F) {kk : Acc F → Prog (E0 (F := F)) α},
    iprop(ctx Kc Vc K ∗ HopSt Kc Vc c h)
      ⊢ iprop((HopSt Kc Vc c (h + n) -∗ wp frame (wpE D 𝒱₀ (c : Thread nD τ) none) Set.univ (kk (accFrom Kc Vc c q n h s)) Q)
          -∗ wp frame (wpE D 𝒱₀ (c : Thread nD τ) none) Set.univ
              (hops kvM (Memref.isWhole_whole _) cc0_scratch1 cc0_scratch2 ackM cc0_scratch4 cc0_scratch5 piece pieceExact c q n h s >>= kk) Q)
  | 0, h, hh, s, kk => by
    unfold hops accFrom
    simp only [Prog.pure_eq_ret, Prog.bind_ret]
    iintro ⟨-, H⟩ Hk
    iapply Hk
    iexact H
  | n + 1, h, hh, s, kk => by
    unfold hops accFrom
    simp only [bind_assoc]
    iintro ⟨#Hc, H⟩ Hk
    iapply (hop_spec D Kc Vc K c h (by omega) q s) $$ [H]
    · isplitr; · iexact Hc
      iexact H
    iintro H
    iapply (hops_spec c q n (h + 1) (by omega) _) $$ [H]
    · isplitr; · iexact Hc
      iexact H
    rw [show h + 1 + n = h + (n + 1) by omega]
    iexact Hk

end Cert.KernelIdeal.Ring
end
-- ==== Proof.Device.lean ====
module

public import proofs.«01_k».proof.Proof.Hop

/-! One device's whole body: the barrier, its own block, the hops, the end. -/

@[expose] public section

set_option synthInstance.maxSize 4096
set_option maxRecDepth 40000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (D : Defs nD τ sig (Elt F) Λ₀) (Kc Vc : Dev nD → Vec F S1024x128 .bf16) (K : Dev nD × Cl → ℕ)

/-! ## The buffers split into slots, and joined -/

def kvWhole (c : Dev nD) : sProp 𝕄 := iprop(∃ f : Buf (Elt F) ((c : Thread nD τ).loc cc0_scratch0), ((c : Thread nD τ).loc cc0_scratch0) ↦{fullShare} f)
def ackWhole (c : Dev nD) : sProp 𝕄 := iprop(∃ f : Buf (Elt F) ((c : Thread nD τ).loc cc0_scratch3), ((c : Thread nD τ).loc cc0_scratch3) ↦{fullShare} f)
def outWhole (c : Dev nD) : sProp 𝕄 := iprop(∃ f : Buf (Elt F) ((c : Thread nD τ).loc cc0_stg3_0), ((c : Thread nD τ).loc cc0_stg3_0) ↦{fullShare} f)
/-- The result's buffer without the rows the acknowledgements are sent from. -/
def outRest (c : Dev nD) : sProp 𝕄 :=
  iprop(∃ f : (cc0_stg3_0 : Ref sig .tc).ty.Contents (Elt F), ((c : Thread nD τ).loc cc0_stg3_0) ↦[(Finset.univ \ pieceSet false) \ pieceSet true]{fullShare} f)

theorem kv_split (c : Dev nD) : kvWhole (F := F) c ⊢ iprop(kvAny c false ∗ kvAny c true) := by
  unfold kvWhole kvAny kvPts
  iintro ⟨%f, H⟩
  ihave H := (show (((c : Thread nD τ).loc cc0_scratch0) ↦{fullShare} f : sProp 𝕄) ⊢ iprop((((c : Thread nD τ).loc cc0_scratch0) ↦[slotSet false]{fullShare} f) ∗ (((c : Thread nD τ).loc cc0_scratch0) ↦[slotSet true]{fullShare} f)) from by
    have := (pointsTo_union (Ix := ℕ) (Name := ℕ) (U := UU) (Lvl := ℕ) (ℓ := (c : Thread nD τ).loc cc0_scratch0) (q := fullShare) (f := f) slots_disjoint).1
    rw [slots_union] at this; exact this) $$ H
  icases H with ⟨H1, H2⟩
  isplitl [H1]; · iexists f; iexact H1
  iexists f; iexact H2
theorem kv_join (c : Dev nD) : iprop(kvAny c false ∗ kvAny c true) ⊢ kvWhole (F := F) c := by
  unfold kvWhole kvAny kvPts
  iintro ⟨⟨%f, H1⟩, %g, H2⟩
  ihave H := (pointsTo_join (ℓ := (c : Thread nD τ).loc cc0_scratch0) (q := fullShare) (f := f) (g := g) slots_disjoint) $$ [H1 H2]
  · isplitl [H1] <;> iassumption
  rw [slots_union]
  iexists _; iexact H
theorem ack_split (c : Dev nD) : ackWhole (F := F) c ⊢ iprop(ackAny c false ∗ ackAny c true) := by
  unfold ackWhole ackAny
  iintro ⟨%f, H⟩
  ihave H := (show (((c : Thread nD τ).loc cc0_scratch3) ↦{fullShare} f : sProp 𝕄) ⊢ iprop((((c : Thread nD τ).loc cc0_scratch3) ↦[ackSet false]{fullShare} f) ∗ (((c : Thread nD τ).loc cc0_scratch3) ↦[ackSet true]{fullShare} f)) from by
    have := (pointsTo_union (Ix := ℕ) (Name := ℕ) (U := UU) (Lvl := ℕ) (ℓ := (c : Thread nD τ).loc cc0_scratch3) (q := fullShare) (f := f) acks_disjoint).1
    rw [acks_union] at this; exact this) $$ H
  icases H with ⟨H1, H2⟩
  isplitl [H1]; · iexists f; iexact H1
  iexists f; iexact H2
theorem ack_join (c : Dev nD) : iprop(ackAny c false ∗ ackAny c true) ⊢ ackWhole (F := F) c := by
  unfold ackWhole ackAny
  iintro ⟨⟨%f, H1⟩, %g, H2⟩
  ihave H := (pointsTo_join (ℓ := (c : Thread nD τ).loc cc0_scratch3) (q := fullShare) (f := f) (g := g) acks_disjoint) $$ [H1 H2]
  · isplitl [H1] <;> iassumption
  rw [acks_union]
  iexists _; iexact H

theorem piece_sub : pieceSet true ⊆ Finset.univ \ pieceSet false := fun i hi =>
  Finset.mem_sdiff.mpr ⟨Finset.mem_univ i, fun h => Finset.disjoint_left.mp pieces_disjoint h hi⟩
theorem out_split (c : Dev nD) : outWhole (F := F) c ⊢ iprop(pieceAny c false ∗ pieceAny c true ∗ outRest c) := by
  unfold outWhole pieceAny outRest
  iintro ⟨%f, H⟩
  ihave H := (show (((c : Thread nD τ).loc cc0_stg3_0) ↦{fullShare} f : sProp 𝕄) ⊢ iprop((((c : Thread nD τ).loc cc0_stg3_0) ↦[pieceSet false]{fullShare} f)
      ∗ (((c : Thread nD τ).loc cc0_stg3_0) ↦[Finset.univ \ pieceSet false]{fullShare} f)) from
    (pointsTo_split_subset (Ix := ℕ) (Name := ℕ) (U := UU) (Lvl := ℕ) (ℓ := (c : Thread nD τ).loc cc0_stg3_0) (q := fullShare) (f := f) (Finset.subset_univ (pieceSet false))).1) $$ H
  icases H with ⟨H1, H⟩
  ihave H := (show (((c : Thread nD τ).loc cc0_stg3_0) ↦[Finset.univ \ pieceSet false]{fullShare} f : sProp 𝕄) ⊢ iprop((((c : Thread nD τ).loc cc0_stg3_0) ↦[pieceSet true]{fullShare} f)
      ∗ (((c : Thread nD τ).loc cc0_stg3_0) ↦[(Finset.univ \ pieceSet false) \ pieceSet true]{fullShare} f)) from
    (pointsTo_split_subset (Ix := ℕ) (Name := ℕ) (U := UU) (Lvl := ℕ) (ℓ := (c : Thread nD τ).loc cc0_stg3_0) (q := fullShare) (f := f) piece_sub).1) $$ H
  icases H with ⟨H2, H3⟩
  isplitl [H1]; · iexists f; iexact H1
  isplitl [H2]; · iexists f; iexact H2
  iexists f; iexact H3
theorem out_join (c : Dev nD) : iprop(pieceAny c false ∗ pieceAny c true ∗ outRest c) ⊢ outWhole (F := F) c := by
  unfold outWhole pieceAny outRest
  iintro ⟨⟨%f, H1⟩, ⟨%g, H2⟩, %h, H3⟩
  ihave H := (pointsTo_join_subset (ℓ := (c : Thread nD τ).loc cc0_stg3_0) (q := fullShare) (f := h) (g := g) piece_sub) $$ [H2 H3]
  · isplitl [H2] <;> iassumption
  ihave H := (pointsTo_join_subset (ℓ := (c : Thread nD τ).loc cc0_stg3_0) (q := fullShare) (g := f) (Finset.subset_univ (pieceSet false))) $$ [H1 H]
  · isplitl [H1] <;> iassumption
  iexists _; iexact H

/-! ## The phases around the hops -/

theorem barrier_spec (c : Dev nD) {α : Type} {Q : α → sProp 𝕄} {kk : Dev nD → Prog (E0 (F := F)) α} :
    iprop(ctx Kc Vc K ∗ kvAny c true ∗ ackAny c false ∗ owesE c (O₀ c) ∗ at_ (cell c none) 0
        ∗ dutyTok ER (cell (lft c) none) 0 true ∗ dutyTok ER (cell (rgt c) none) 0 false ∗ cred (tallyAt (cell c none) 0 2))
      ⊢ iprop(((ackAny (lft c) false ∗ kvAny (rgt c) true ∗ owesE c (owe 0 0 c) ∗ at_ (cell c none) 1)
            -∗ wp frame (wpE D 𝒱₀ (c : Thread nD τ) none) Set.univ (kk c) Q)
          -∗ wp frame (wpE D 𝒱₀ (c : Thread nD τ) none) Set.univ (barrierPhase >>= kk) Q) := by
  unfold barrierPhase
  simp only [semSignalWord, semWaitWord, Prog.lift, Prog.bind_op, Prog.bind_ret, Prog.pure_eq_ret, wp_deviceId]
  unfold owesE at_
  iintro ⟨#Hc, Hkv, Hack, ⟨%W, HO⟩, ⟨Hat, -⟩, Ht1, Ht2, Hcr⟩ Hk
  iapply (Rounds.wp_signal 𝒱₀ ER (ringRd Kc Vc) (c : Thread nD τ) none (dst := (lft c : Thread nD τ)) (κ := K (lft c, none)) (sem := barS) (r := 0)
      (d := true) (by rw [show ((lft c : Thread nD τ), SemLoc.reg barS) = cell (lft c) none from rfl, duties_cell]; exact Finset.mem_univ _)
      ((amount_cell Kc Vc (lft c) none 0 true).trans (by decide)) 0 (O₁ c) rfl)
    $$ [HO Ht1 Hkv]
  · isplitr; · iapply (ctx_inv Kc Vc K (lft c) none); iexact Hc
    isplitl [HO]; · iexact HO
    isplitl [Ht1]; · iexact Ht1
    isplitl [Hkv]
    · iapply (Entails.of_eq (show kvAny c true = (ringRd Kc Vc).payload ((lft c : Thread nD τ), SemLoc.reg barS) 0 true by
        rw [show ((lft c : Thread nD τ), SemLoc.reg barS) = cell (lft c) none from rfl, payload_cell]; show _ = kvAny (rgt (lft c)) true; rw [rgt_lft])); iexact Hkv
    iapply (ctx_reached Kc Vc K (lft c) none); iexact Hc
  iintro HO
  iapply (Rounds.wp_signal 𝒱₀ ER (ringRd Kc Vc) (c : Thread nD τ) none (dst := (rgt c : Thread nD τ)) (κ := K (rgt c, none)) (sem := barS) (r := 0)
      (d := false) (by rw [show ((rgt c : Thread nD τ), SemLoc.reg barS) = cell (rgt c) none from rfl, duties_cell]; exact Finset.mem_univ _)
      ((amount_cell Kc Vc (rgt c) none 0 false).trans (by decide)) 0 (owe 0 0 c) rfl)
    $$ [HO Ht2 Hack]
  · isplitr; · iapply (ctx_inv Kc Vc K (rgt c) none); iexact Hc
    isplitl [HO]; · iexact HO
    isplitl [Ht2]; · iexact Ht2
    isplitl [Hack]
    · iapply (Entails.of_eq (show ackAny c false = (ringRd Kc Vc).payload ((rgt c : Thread nD τ), SemLoc.reg barS) 0 false by
        rw [show ((rgt c : Thread nD τ), SemLoc.reg barS) = cell (rgt c) none from rfl, payload_cell]; show _ = ackAny (lft (rgt c)) false; rw [lft_rgt])); iexact Hack
    iapply (ctx_reached Kc Vc K (rgt c) none); iexact Hc
  iintro HO
  iapply (Rounds.wp_wait_rest_token 𝒱₀ ER (ringRd Kc Vc) (c : Thread nD τ) none (κ := K (c, none))
      (wpE_semWait_eq 𝒱₀ (c : Thread nD τ) none Set.univ) (Set.mem_univ _) 0 (O := owe 0 0 c) (W := W) (R := 0) (m := 0) (T := ∅)
      (by rw [show ((c : Thread nD τ), SemLoc.reg barS) = cell c none from rfl, expect_bar]; decide)) $$ [Hcr HO Hat]
  · isplitr; · iapply (ctx_inv Kc Vc K c none); iexact Hc
    isplitl [Hcr]; · iexact Hcr
    isplitl [HO]; · iexact HO
    isplitr; · iapply ((ctx_lev Kc Vc K).trans (mayWait c none 0 1 0 0 (by omega) (le_refl _) (by omega) (by omega))); iexact Hc
    iexact Hat
  iintro ⟨HO, Hat, Hr, Hp⟩
  ihave Hp := (show (bigSep ((ringRd Kc Vc).duties ((c : Thread nD τ), SemLoc.reg barS) 0 \ ∅) fun d => (ringRd Kc Vc).payload ((c : Thread nD τ), SemLoc.reg barS) 0 d)
      ⊢ iprop(ackAny (lft c) false ∗ kvAny (rgt c) true) from Entails.of_eq (rest_bar Kc Vc c)) $$ Hp
  icases Hp with ⟨H1, H2⟩
  iapply Hk
  isplitl [H1]; · iexact H1
  isplitl [H2]; · iexact H2
  isplitl [HO]; · iexists _; iexact HO
  isplitl [Hat]; · iexact Hat
  iexact Hr

theorem hz : (![0, 0] : Fin 2 → Nat) = fun _ => 0 := funext fun a => by fin_cases a <;> rfl

/-- A staging buffer at its contents. -/
abbrev pts (c : Dev nD) (b : Ref sig .tc) (f : Buf (Elt F) ((c : Thread nD τ).loc b)) : sProp 𝕄 := ((c : Thread nD τ).loc b) ↦{fullShare} f

theorem own_spec (c : Dev nD) (q k v : Vec F S1024x128 .bf16) {α : Type} {Q : α → sProp 𝕄} {kk : (Σ' (_ : FVec F S1024x128 .bf16), Acc F) → Prog (E0 (F := F)) α} :
    iprop(pts c cc0_stg0_0 q ∗ pts c cc0_stg1_0 k ∗ pts c cc0_stg2_0 v ∗ kvAny c false)
      ⊢ iprop(((pts c cc0_stg0_0 q ∗ pts c cc0_stg1_0 k ∗ pts c cc0_stg2_0 v ∗ kvPts c false (kvAt k v))
            -∗ wp frame (wpE D 𝒱₀ (c : Thread nD τ) none) Set.univ (kk ⟨k0_pay4 q, Acc.first q k v⟩) Q)
          -∗ wp frame (wpE D 𝒱₀ (c : Thread nD τ) none) Set.univ (ownPhase qM kM vM kvM (Memref.isWhole_whole _) >>= kk) Q) := by
  unfold ownPhase kvAny kvPts
  simp only [Prog.lift, Prog.bind_op, Prog.bind_ret, Prog.pure_eq_ret]
  iintro ⟨Hq, Hk, Hv, %f, Hs⟩ HK
  iapply (wp_load 𝒱₀ (c : Thread nD τ) none Set.univ (m := kM) (Finset.subset_univ _)) $$ Hk; iintro Hk
  rw [show ((kM : Memref sig .tc .vmem S1024x128 .bf16).view.readAt (Elt F) whole2 k) = k from Memref.readAt_unit_zero (Elt F) cc0_stg1_0 hz _ k]
  iapply (wp_load_rect 𝒱₀ (c : Thread nD τ) none Set.univ (m := kvM) (r := kRect false) (k_sub false)) $$ Hs; iintro Hs
  iapply (wp_store 𝒱₀ (c : Thread nD τ) none Set.univ (m := kvM) (r := kRect false) (Mk := Finset.univ) (k_sub false)) $$ Hs; iintro Hs
  iapply (wp_load 𝒱₀ (c : Thread nD τ) none Set.univ (m := vM) (Finset.subset_univ _)) $$ Hv; iintro Hv
  rw [show ((vM : Memref sig .tc .vmem S1024x128 .bf16).view.readAt (Elt F) whole2 v) = v from Memref.readAt_unit_zero (Elt F) cc0_stg2_0 hz _ v]
  iapply (wp_load_rect 𝒱₀ (c : Thread nD τ) none Set.univ (m := kvM) (r := vRect false) (v_sub false)) $$ Hs; iintro Hs
  iapply (wp_store 𝒱₀ (c : Thread nD τ) none Set.univ (m := kvM) (r := vRect false) (Mk := Finset.univ) (v_sub false)) $$ Hs; iintro Hs
  iapply (wp_load 𝒱₀ (c : Thread nD τ) none Set.univ (m := qM) (Finset.subset_univ _)) $$ Hq; iintro Hq
  rw [show ((qM : Memref sig .tc .vmem S1024x128 .bf16).view.readAt (Elt F) whole2 q) = q from Memref.readAt_unit_zero (Elt F) cc0_stg0_0 hz _ q]
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [show ((vM : Memref sig .tc .vmem S1024x128 .bf16).view.readAt (Elt F) whole2 v) = v from Memref.readAt_unit_zero (Elt F) cc0_stg2_0 hz _ v,
    show ((kM : Memref sig .tc .vmem S1024x128 .bf16).view.readAt (Elt F) whole2 k) = k from Memref.readAt_unit_zero (Elt F) cc0_stg1_0 hz _ k]
  iapply HK
  isplitl [Hq]; · iexact Hq
  isplitl [Hk]; · iexact Hk
  isplitl [Hv]; · iexact Hv
  ihave Hs := (Entails.of_eq (pointsTo_congr (Ix := ℕ) (Name := ℕ) (U := UU) (Lvl := ℕ) (ℓ := (c : Thread nD τ).loc cc0_scratch0) (q := fullShare) (store_slot k v f))) $$ Hs
  iexact Hs

theorem end_spec (c : Dev nD) (s : Acc F) {α : Type} {Q : α → sProp 𝕄} {kk : PUnit → Prog (E0 (F := F)) α} :
    iprop(ctx Kc Vc K ∗ AckS c 30 ∗ outRest c ∗ owesE c 0)
      ⊢ iprop(((pts c cc0_stg3_0 (k0_pay1 s.l s.a) ∗ at_ (cell c (some (2, false))) 15 ∗ at_ (cell c (some (2, true))) 15 ∗ owesE c 0)
            -∗ wp frame (wpE D 𝒱₀ (c : Thread nD τ) none) Set.univ (kk ⟨⟩) Q)
          -∗ wp frame (wpE D 𝒱₀ (c : Thread nD τ) none) Set.univ (endPhase oM ackM cc0_scratch4 s >>= kk) Q) := by
  unfold endPhase ackWait AckS
  simp only [Prog.lift, Prog.bind_op, Prog.bind_ret, Prog.pure_eq_ret]
  have hm : ∀ b, (levAts L lv : sProp 𝕄) ⊢ MayWait (c : Thread nD τ) (csem (some (2, b))) 0 0 := fun b => by
    rw [MayWait_zero]; iintro -; iempintro
  iintro ⟨#Hc, ⟨H0, H1⟩, Hrest, HO⟩ Hk
  ihave H0 := (show AS c (par 30) (30 / 2) ⊢ (iprop(cred (tallyAt (cell c (some (2, false))) 0 Nack) ∗ at_ (cell c (some (2, false))) 14) : sProp 𝕄) from BI.Entails.refl _) $$ H0
  ihave H1 := (show AS c (!par 30) ((30 + 1) / 2) ⊢ (iprop(cred (tallyAt (cell c (some (2, true))) 0 Nack) ∗ at_ (cell c (some (2, true))) 14) : sProp 𝕄) from BI.Entails.refl _) $$ H1
  icases H0 with ⟨Hc0, H0⟩
  icases H1 with ⟨Hc1, H1⟩
  iapply (wait_xfer D Kc Vc K c 2 false 14 0 Nack (by decide) (O := 0)
    (fun R => (wpE_waitDma2_eq 𝒱₀ (c : Thread nD τ) none Set.univ R).trans (by rw [Nack_eq]; rfl)) rfl (hm false)) $$ [Hc0 HO H0]
  · isplitr; · iexact Hc
    isplitl [Hc0]; · iexact Hc0
    isplitl [HO] <;> iassumption
  iintro ⟨HO, H0, Hp0⟩
  iapply (wait_xfer D Kc Vc K c 2 true 14 0 Nack (by decide) (O := 0)
    (fun R => (wpE_waitDma2_eq 𝒱₀ (c : Thread nD τ) none Set.univ R).trans (by rw [Nack_eq]; rfl)) rfl (hm true)) $$ [Hc1 HO H1]
  · isplitr; · iexact Hc
    isplitl [Hc1]; · iexact Hc1
    isplitl [HO] <;> iassumption
  iintro ⟨HO, H1, Hp1⟩
  ihave Ho := (out_join (F := F) c) $$ [Hp0 Hp1 Hrest]
  · isplitl [Hp0]; · iapply (show payOf Kc Vc c (some (2, false)) 14 false ⊢ pieceAny c false from BI.Entails.refl _); iexact Hp0
    isplitl [Hp1]; · iapply (show payOf Kc Vc c (some (2, true)) 14 false ⊢ pieceAny c true from BI.Entails.refl _); iexact Hp1
    iexact Hrest
  unfold outWhole
  icases Ho with ⟨%f, Ho⟩
  iapply (wp_load 𝒱₀ (c : Thread nD τ) none Set.univ (m := oM) (Finset.subset_univ _)) $$ Ho; iintro Ho
  iapply (wp_store 𝒱₀ (c : Thread nD τ) none Set.univ (m := oM) (r := Rect.unit (s := S1024x128) ![0, 0] S1024x128.size inb_S1024x128_S1024x128_0_0) (Mk := Finset.univ) (Finset.subset_univ _)) $$ Ho; iintro Ho
  rw [show ((oM : Memref sig .tc .vmem S1024x128 .f32).access (Rect.unit (s := S1024x128) ![0, 0] S1024x128.size inb_S1024x128_S1024x128_0_0) : View sig .tc _ _ _).write (Elt F) f (k0_pay1 s.l s.a) Finset.univ = k0_pay1 s.l s.a
    from Memref.write_access_unit_zero_univ (Elt F) cc0_stg3_0 hz _ f _]
  iapply Hk
  isplitl [Ho]; · iexact Ho
  isplitl [H0]; · iexact H0
  isplitl [H1] <;> iassumption

/-! ## The whole body -/

theorem close (c : Dev nD) (k : Cl) (r : ℕ) (h : match k with | none => 1 ≤ r | some (k, b) => lim k ≤ hopOf k b r) :
    iprop(ctx Kc Vc K ∗ at_ (cell c k) r) ⊢ (|={Set.univ}=> semVal (cell c k) 0 : sProp 𝕄) := by
  unfold at_
  iintro ⟨#Hc, Ha, -⟩
  iapply (Rounds.cell_close ER (ringRd Kc Vc) (Set.mem_univ (K (c, k))) (fun h => h) (R := r) (duties_end Kc Vc c k r h))
  isplitr; · iapply (ctx_inv Kc Vc K c k); iexact Hc
  iexact Ha

/-- The owner's places at launch, and the tokens of the duties it pays. -/
def ats (c : Dev nD) : sProp 𝕄 := bigSep Finset.univ fun k : Cl => at_ (cell c k) 0
def tokK (c : Dev nD) : sProp 𝕄 := bigSep (Finset.Ico 0 31) fun j =>
  iprop(dutyTok ER (cell c (some (0, par j))) (j / 2) false ∗ dutyTok ER (cell (rgt c) (some (1, !par j))) (j / 2) false)
def linear (c : Dev nD) : sProp 𝕄 :=
  iprop(ats c ∗ dutyTok ER (cell (lft c) none) 0 true ∗ dutyTok ER (cell (rgt c) none) 0 false ∗ tokK c ∗ FutA c 0)
def creds (c : Dev nD) : sProp 𝕄 :=
  iprop(cred (tallyAt (cell c none) 0 2) ∗ (bigSep (Finset.Ico 0 31) fun j => cred (tallyAt (cell c (some (1, !par j))) j Nkv)) ∗ FutC c 0)

theorem bigSep_cl (Φ : Cl → sProp 𝕄) : bigSep Finset.univ Φ = iprop(Φ none ∗ Φ (some (0, false)) ∗ Φ (some (0, true)) ∗ Φ (some (1, false)) ∗ Φ (some (1, true))
    ∗ Φ (some (2, false)) ∗ Φ (some (2, true)) ∗ Φ (some (3, false)) ∗ Φ (some (3, true))) :=
  bigSep_univ_eq_bigSepL [none, some (0, false), some (0, true), some (1, false), some (1, true), some (2, false), some (2, true), some (3, false), some (3, true)] (by decide) (by decide) Φ

/-- The own semaphores at zero. -/
def zeros (c : Dev nD) : sProp 𝕄 := bigSep Finset.univ fun k : Cl => semVal (cell c k) 0

/-- The result of device `c`. -/
def outOf (c : Dev nD) (q : Vec F S1024x128 .bf16) : FVec F S1024x128 .f32 :=
  let s := accFrom Kc Vc c (k0_pay4 q) 31 0 (Acc.first q (Kc c) (Vc c))
  k0_pay1 s.l s.a

theorem body_spec (c : Dev nD) (q : Vec F S1024x128 .bf16) {Q : PUnit → sProp 𝕄} :
    iprop(ctx Kc Vc K ∗ linear c ∗ creds c ∗ kvWhole c ∗ ackWhole c ∗ owesE c (O₀ c)
        ∗ pts c cc0_stg0_0 q ∗ pts c cc0_stg1_0 (Kc c) ∗ pts c cc0_stg2_0 (Vc c) ∗ outWhole c)
      ⊢ iprop(((zeros c ∗ kvWhole c ∗ ackWhole c ∗ owesE c 0
            ∗ pts c cc0_stg0_0 q ∗ pts c cc0_stg1_0 (Kc c) ∗ pts c cc0_stg2_0 (Vc c) ∗ pts c cc0_stg3_0 (outOf Kc Vc c q)) -∗ Q ⟨⟩)
          -∗ wp frame (wpE D 𝒱₀ (c : Thread nD τ) none) Set.univ
            (body qM kM vM oM kvM (Memref.isWhole_whole _) cc0_scratch1 cc0_scratch2 ackM cc0_scratch4 cc0_scratch5 piece pieceExact) Q) := by
  unfold body linear creds ats
  rw [bigSep_cl]
  iintro ⟨#Hc, ⟨⟨AB, A00, A01, A10, A11, A20, A21, A30, A31⟩, Ht1, Ht2, HtK, HfA⟩, ⟨HcB, HcK, HfC⟩, Hkv, Hack, HO, Hq, Hk, Hv, Ho⟩ HQ
  ihave Hkv := (kv_split (F := F) c) $$ Hkv
  icases Hkv with ⟨Hkv0, Hkv1⟩
  ihave Hack := (ack_split (F := F) c) $$ Hack
  icases Hack with ⟨Hack0, Hack1⟩
  ihave Ho := (out_split (F := F) c) $$ Ho
  icases Ho with ⟨Hp0, Hp1, Hrest⟩
  iapply (barrier_spec D Kc Vc K c) $$ [Hkv1 Hack0 HO AB Ht1 Ht2 HcB]
  · isplitr; · iexact Hc
    isplitl [Hkv1]; · iexact Hkv1
    isplitl [Hack0]; · iexact Hack0
    isplitl [HO]; · iexact HO
    isplitl [AB]; · iexact AB
    isplitl [Ht1]; · iexact Ht1
    isplitl [Ht2] <;> iassumption
  iintro ⟨HackL, HkvR, HO, AB⟩
  iapply (own_spec D c q (Kc c) (Vc c)) $$ [Hq Hk Hv Hkv0]
  · isplitl [Hq]; · iexact Hq
    isplitl [Hk]; · iexact Hk
    isplitl [Hv] <;> iassumption
  iintro ⟨Hq, Hk, Hv, Hkv0⟩
  dsimp only
  iapply (hops_spec D Kc Vc K c (k0_pay4 q) 31 0 (by omega) (Acc.first q (Kc c) (Vc c))) $$ [HackL HkvR HO Hkv0 Hack1 HtK HcK HfA HfC A00 A01 A10 A11 A20 A21 A30 A31 Hp0 Hp1]
  · isplitr; · iexact Hc
    unfold HopSt
    isplitl [Hkv0]; · iexact Hkv0
    isplitl [Hack1 HkvR]
    · rw [if_pos rfl]
      unfold AckGot
      isplitl [Hack1]; · iexact Hack1
      isplitl [HkvR]; · iexact HkvR
      iapply (ctx_reached Kc Vc K (rgt c) (some (1, true))); iexact Hc
    isplitl [HackL]
    · unfold AckDst
      rw [if_pos (by decide)]
      isplitl [HackL]; · iexact HackL
      iapply (ctx_reached Kc Vc K (lft c) (some (3, false))); iexact Hc
    isplitl [A00 A01 A10 A11 A30 A31]
    · unfold Pos
      isplitl [A00]; · iexact A00
      isplitl [A01]; · iexact A01
      isplitl [A10]; · iexact A10
      isplitl [A11]; · iexact A11
      isplitl [A30]; · iexact A30
      iexact A31
    isplitl [A20 A21 Hp0 Hp1]
    · iapply (show iprop((pieceAny c false ∗ at_ (cell c (some (2, false))) 0) ∗ (pieceAny c true ∗ at_ (cell c (some (2, true))) 0)) ⊢ (AckS c (min 0 30) : sProp 𝕄) from BI.Entails.refl _)
      isplitl [A20 Hp0]
      · isplitl [Hp0] <;> iassumption
      isplitl [Hp1] <;> iassumption
    isplitl [HtK HcK]
    · iapply (show iprop(tokK c ∗ (bigSep (Finset.Ico 0 31) fun j => cred (tallyAt (cell c (some (1, !par j))) j Nkv))) ⊢ (FutK c 0 : sProp 𝕄) from by
        unfold tokK FutK
        rw [← bigSep_sep']
        exact bigSep_mono fun j _ => show iprop((dutyTok ER (cell c (some (0, par j))) (j / 2) false ∗
              dutyTok ER (cell (rgt c) (some (1, !par j))) (j / 2) false) ∗ cred (tallyAt (cell c (some (1, !par j))) j Nkv))
            ⊢ iprop(dutyTok ER (cell c (some (0, par j))) (j / 2) false ∗
              dutyTok ER (cell (rgt c) (some (1, !par j))) (j / 2) false ∗ cred (tallyAt (cell c (some (1, !par j))) j Nkv)) by
          iintro ⟨⟨H1, H2⟩, H3⟩
          isplitl [H1]; · iexact H1
          isplitl [H2] <;> iassumption)
      isplitl [HtK] <;> iassumption
    isplitl [HfA]; · iexact HfA
    isplitl [HfC]; · iexact HfC
    isplitr
    · unfold Kept
      rw [if_neg (by omega), if_neg (by omega)]
      isplitl <;> iempintro
    iexact HO
  rw [Nat.zero_add]
  unfold HopSt Pos Kept
  rw [if_pos (show 29 < 31 by decide), if_pos (show 30 < 31 by decide), owe_end (by omega) (by omega)]
  iintro ⟨Hkv1, -, -, ⟨A01, A00, A11, A10, A31, A30⟩, HS, -, -, -, ⟨Hack0, Hack1, Hkv0⟩, HO⟩
  rw [← bind_pure (endPhase oM ackM cc0_scratch4 _)]
  iapply (end_spec D Kc Vc K c _) $$ [HS Hrest HO]
  · isplitr; · iexact Hc
    isplitl [HS]; · iexact HS
    isplitl [Hrest] <;> iassumption
  iintro ⟨Ho, A20, A21, HO⟩
  simp only [Prog.pure_eq_ret]
  imod (close Kc Vc K c none 1 (le_refl _)) $$ [AB] with ZB
  · isplitr; · iexact Hc
    iexact AB
  imod (close Kc Vc K c (some (0, false)) 16 (by decide)) $$ [A00] with Z00
  · isplitr; · iexact Hc
    iexact A00
  imod (close Kc Vc K c (some (0, true)) 15 (by decide)) $$ [A01] with Z01
  · isplitr; · iexact Hc
    iexact A01
  imod (close Kc Vc K c (some (1, false)) 15 (by decide)) $$ [A10] with Z10
  · isplitr; · iexact Hc
    iexact A10
  imod (close Kc Vc K c (some (1, true)) 16 (by decide)) $$ [A11] with Z11
  · isplitr; · iexact Hc
    iexact A11
  imod (close Kc Vc K c (some (2, false)) 15 (by decide)) $$ [A20] with Z20
  · isplitr; · iexact Hc
    iexact A20
  imod (close Kc Vc K c (some (2, true)) 15 (by decide)) $$ [A21] with Z21
  · isplitr; · iexact Hc
    iexact A21
  imod (close Kc Vc K c (some (3, false)) 15 (by decide)) $$ [A30] with Z30
  · isplitr; · iexact Hc
    iexact A30
  imod (close Kc Vc K c (some (3, true)) 15 (by decide)) $$ [A31] with Z31
  · isplitr; · iexact Hc
    iexact A31
  rw [wp_ret]; imodintro
  iapply HQ
  isplitl [ZB Z00 Z01 Z10 Z11 Z20 Z21 Z30 Z31]
  · unfold zeros; rw [bigSep_cl]
    isplitl [ZB]; · iexact ZB
    isplitl [Z00]; · iexact Z00
    isplitl [Z01]; · iexact Z01
    isplitl [Z10]; · iexact Z10
    isplitl [Z11]; · iexact Z11
    isplitl [Z20]; · iexact Z20
    isplitl [Z21]; · iexact Z21
    isplitl [Z30] <;> iassumption
  isplitl [Hkv0 Hkv1]
  · iapply (kv_join (F := F) c)
    isplitl [Hkv0]; · iexact Hkv0
    unfold kvAny; iexists _; iexact Hkv1
  isplitl [Hack0 Hack1]
  · iapply (ack_join (F := F) c)
    isplitl [Hack0] <;> iassumption
  isplitl [HO]; · iexact HO
  isplitl [Hq]; · iexact Hq
  isplitl [Hk]; · iexact Hk
  isplitl [Hv]; · iexact Hv
  iexact Ho

end Cert.KernelIdeal.Ring
end
-- ==== Proof.Launch.lean ====
module

public import proofs.«01_k».proof.Proof.Device
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

/-! The launch: the program whose acknowledgements are sent from the result's buffer runs on every device to the
    computed contents. -/

@[expose] public section

set_option synthInstance.maxSize 4096
set_option maxRecDepth 40000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-- The body table of the program whose acknowledgements are sent from the result's buffer. -/
def defs₁ : Defs nD τ sig (Elt F) Λ₀ := Defs.onTc fun
  | 0, (t, s) => body (win0_0.stage (s 0)) (win0_1.stage (s 1)) (win0_2.stage (s 2)) (win0_3.stage (s 3)) (Memref.whole cc0_scratch0) (Memref.isWhole_whole _)
      cc0_scratch1 cc0_scratch2 (Memref.whole cc0_scratch3) cc0_scratch4 cc0_scratch5 piece pieceExact
  | ⟨_ + 1, h⟩, _ => absurd h (Nat.not_lt.2 (Nat.le_add_left _ _))
def defsP : Defs nD τ sig (Elt F) (Pipeline.Sig Λ₀ (Fin 1) fun p => (pcfgs (F := F) p).Adm) := Pipeline.defs pcfgs defs₁

variable (m : (ℓ : Loc nD τ sig) → Buf (Elt F) ℓ) (ρ : Dev nD → PrngReg)

/-- The memory at launch. -/
def init : MemSt nD τ sig (Elt F) := ⟨m, fun _ => 0, ρ⟩

theorem cfg0_N : cfg0.N = 1 := by decide
abbrev t₀ : Fin cfg0.N := ⟨0, by decide⟩
theorem fin_N (t : Fin cfg0.N) : t = t₀ := Fin.ext (Nat.lt_one_iff.mp (lt_of_lt_of_eq t.isLt cfg0_N))

def qstg (c : Dev nD) : Vec F S1024x128 .bf16 := (win0_0.blk (0 : Fin 1)).view.read (Elt F) ((init m ρ).mem ((c : Thread nD τ).loc main_arg0))
def kstg (c : Dev nD) : Vec F S1024x128 .bf16 := (win0_1.blk (0 : Fin 1)).view.read (Elt F) ((init m ρ).mem ((c : Thread nD τ).loc main_arg1))
def vstg (c : Dev nD) : Vec F S1024x128 .bf16 := (win0_2.blk (0 : Fin 1)).view.read (Elt F) ((init m ρ).mem ((c : Thread nD τ).loc main_arg2))
/-- What device `c` computes. -/
def outAt (c : Dev nD) : FVec F S1024x128 .f32 := outOf (kstg m ρ) (vstg m ρ) c (qstg m ρ c)

def start (c : Dev nD) : sProp 𝕄 := iprop((∃ K, ctx (kstg m ρ) (vstg m ρ) K) ∗ linear c ∗ creds c)
def Φ₀ (c : Dev nD) : sProp 𝕄 := iprop(start m ρ c ∗ kvWhole c ∗ ackWhole c)
def Φ₁ (c : Dev nD) : sProp 𝕄 := iprop(kvWhole c ∗ ackWhole c ∗ zeros c)

def dats (_ : Fin 1) (c : Dev nD) : Dat τ (Elt F) ℕ ℕ UU ℕ cfg0 c where
  A w := (init m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ
theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt 0 t₀.succ ∗ stg c cc0_stg0_0 (qstg m ρ c) ∗ stg c cc0_stg1_0 (kstg m ρ c) ∗ stg c cc0_stg2_0 (vstg m ρ c)
    ∗ stg c cc0_stg3_0 (outAt m ρ c))

theorem sound_body (c : Dev nD) :
    bodyPre m ρ c ⊢ wp frame (wpE (defs₁ (F := F)) 𝒱₀ (c : Thread nD τ) none) Set.univ
      (body qM kM vM oM kvM (Memref.isWhole_whole _) cc0_scratch1 cc0_scratch2 ackM cc0_scratch4 cc0_scratch5 piece pieceExact) (fun _ => bodyPost m ρ c) := by
  unfold bodyPre Φ₀ start
  iintro ⟨⟨⟨⟨%K, #Hc⟩, Hlin, Hcr⟩, Hkv, Hack⟩, Ho, ⟨%d0, %g0, %hg0, Hq⟩, ⟨%d1, %g1, %hg1, Hk⟩, ⟨%d2, %g2, %hg2, Hv⟩, ⟨%d3, %g3, %hg3, Hout⟩⟩
  have hq : g0 = qstg m ρ c := by rw [hg0]; unfold Dat.before; rw [if_pos (fetch_0 t₀)]; rfl
  have hk : g1 = kstg m ρ c := by rw [hg1]; unfold Dat.before; rw [if_pos (fetch_1 t₀)]; rfl
  have hv : g2 = vstg m ρ c := by rw [hg2]; unfold Dat.before; rw [if_pos (fetch_2 t₀)]; rfl
  subst hq hk hv
  unfold Dat.owesAt Pipeline.owesWithin
  icases Ho with ⟨%W, %hW, HO⟩
  rw [show (dats m ρ 0 c).owed t₀.castSucc = O₀ c from rfl]
  iapply (body_spec defs₁ (kstg m ρ) (vstg m ρ) K c (qstg m ρ c)) $$ [Hlin Hcr Hkv Hack HO Hq Hk Hv Hout]
  · isplitr; · iexact Hc
    isplitl [Hlin]; · iexact Hlin
    isplitl [Hcr]; · iexact Hcr
    isplitl [Hkv]; · iexact Hkv
    isplitl [Hack]; · iexact Hack
    isplitl [HO]; · unfold owesE; iexists W; iexact HO
    isplitl [Hq]; · iexact Hq
    isplitl [Hk]; · iexact Hk
    isplitl [Hv]; · iexact Hv
    unfold outWhole; iexists g3; iexact Hout
  iintro ⟨Hz, Hkv, Hack, HO, Hq, Hk, Hv, Hout⟩
  unfold bodyPost Φ₁ Dat.owesAt Pipeline.owesWithin owesE
  icases HO with ⟨%W', HO⟩
  rw [show (dats m ρ 0 c).owed t₀.succ = 0 from rfl]
  isplitl [Hz Hkv Hack]
  · isplitl [Hkv]; · iexact Hkv
    isplitl [Hack] <;> iassumption
  isplitl [HO]
  · iexists W'
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Hout

theorem body_obligation (c : Dev nD) : BodyObligation (dats (F := F) m ρ 0 c) (defs₁ (F := F)) 𝒱₀ 0 Set.univ := fun t => by
  rw [fin_N t]
  rw [bigSep_W, bigSep_W]
  simp only [owns_whole_eq]
  exact sound_body m ρ c

/-! ## The cells, the tokens -/

abbrev osem : Fin 8 → SemLoc sig := fun
  | 0 => csem (some (0, false)) | 1 => csem (some (0, true)) | 2 => csem (some (1, false)) | 3 => csem (some (1, true))
  | 4 => csem (some (2, false)) | 5 => csem (some (2, true)) | 6 => csem (some (3, false)) | 7 => csem (some (3, true))
theorem ownSemFacts : Pipeline.OwnSemFacts cfg0.spec osem := by decide

theorem share_eq (c : Dev nD) (w : Fin cfg0.W) : (dats m ρ 0 c).share w = fullShare := by unfold Dat.share; split <;> rfl

abbrev kcell (ck : Dev nD × Cl) : GSem nD τ sig := cell ck.1 ck.2
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of a device's cells: kinds 0 to 3 the transfers' by hop, 4 and 5 the barrier's two. -/
def key (k : Fin 6) (j : Fin 31) : Cl × ℕ × Bool := match k with
  | 0 => (some (0, par j), j / 2, false)
  | 1 => (some (1, !par j), j / 2, false)
  | 2 => (some (2, par j), j / 2, false)
  | 3 => (some (3, par j), j / 2, false)
  | 4 => (none, j, false)
  | 5 => (none, j, true)
def unkey (x : Cl × ℕ × Bool) : ℕ × ℕ := match x with
  | (none, r, d) => (if d then 5 else 4, r)
  | (some (k, b), r, _) => (k.val, hopOf k b r)
theorem unkey_key (k : Fin 6) (j : Fin 31) : unkey (key k j) = (k.val, j.val) := by
  fin_cases k
  · exact congrArg (Prod.mk 0) (hop_send j)
  · exact congrArg (Prod.mk 1) (hop_recv j)
  · exact congrArg (Prod.mk 2) (hop_ackS j)
  · exact congrArg (Prod.mk 3) (hop_ackR j)
  · rfl
  · rfl
abbrev tokOf (x : Dev nD × Fin 6 × Fin 31) : GSem nD τ sig × ℕ × Bool := (cell x.1 (key x.2.1 x.2.2).1, (key x.2.1 x.2.2).2)
theorem tokOf_injective : Function.Injective tokOf := by
  rintro ⟨c, k, j⟩ ⟨c', k', j'⟩ h
  have h0 := congrArg (fun y : GSem nD τ sig × ℕ × Bool => y.1) h
  have h3 := congrArg (fun y : GSem nD τ sig × ℕ × Bool => y.2) h
  have h1 : c = c' := congrArg (fun g : GSem nD τ sig => g.1.1) h0
  have h2 : (key k j).1 = (key k' j').1 := csem_injective (congrArg Prod.snd h0)
  have h4 : unkey (key k j) = unkey (key k' j') := congrArg unkey (Prod.ext h2 h3)
  rw [unkey_key, unkey_key] at h4
  rw [h1, Fin.ext (congrArg Prod.fst h4), Fin.ext (congrArg Prod.snd h4)]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of one kind of a device's cells. -/
def tokKind (k : Fin 6) (c : Dev nD) : sProp 𝕄 := bigSep Finset.univ fun j : Fin 31 => dutyTok ER (cell c (key k j).1) (key k j).2.1 (key k j).2.2
def toks (c : Dev nD) : sProp 𝕄 := bigSep Finset.univ fun k : Fin 6 => tokKind k c
/-- The device whose duties of a kind a device pays. -/
def payee (k : Fin 6) : Dev nD ≃ Dev nD := match k with
  | 0 => Equiv.refl _ | 1 => ring | 2 => Equiv.refl _ | 3 => ring.symm | 4 => ring | 5 => ring.symm
def payToks (c : Dev nD) : sProp 𝕄 := bigSep Finset.univ fun k : Fin 6 => tokKind k (payee k c)

def G (c : Dev nD) : sProp 𝕄 :=
  iprop((bigSep Finset.univ fun k : Cl => roundState ER (ringRd (kstg m ρ) (vstg m ρ)) (kcell (c, k)) 0)
    ∗ (bigSep Finset.univ fun k : Cl => iprop(atPos ER (kcell (c, k)) 0 ∅ 0 ∗ reached ER (kcell (c, k)) 0)) ∗ toks c)

/-- What every device knows but the levels. -/
def records (K : Dev nD × Cl → ℕ) : sProp 𝕄 :=
  iprop((bigSep Finset.univ fun ck : Dev nD × Cl => cellInv ER (ringRd (kstg m ρ) (vstg m ρ)) (K ck) (kcell ck))
    ∗ bigSep Finset.univ fun ck : Dev nD × Cl => reached ER (kcell ck) 0)
instance records_persistent (K : Dev nD × Cl → ℕ) : BI.Persistent (records m ρ K) := by unfold records; infer_instance
def G' (c : Dev nD) : sProp 𝕄 := iprop((∃ K, records m ρ K) ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks tokKind; rw [bigSep_univ_prod]; rfl
  iintro HX
  imod (Rounds.fund ER (ringRd (kstg m ρ) (vstg m ρ)) ringCells ringToks) $$ HX with ⟨Hst, Hr, Hat, Htok⟩
  imodintro
  ihave Hst' := (Entails.of_eq (hX fun g => roundState ER (ringRd (kstg m ρ) (vstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal (cell c (some (0, false))) 0 ∗ semVal (cell c (some (0, true))) 0 ∗ semVal (cell c (some (1, false))) 0 ∗ semVal (cell c (some (1, true))) 0
      ∗ semVal (cell c (some (2, false))) 0 ∗ semVal (cell c (some (2, true))) 0 ∗ semVal (cell c (some (3, false))) 0 ∗ semVal (cell c (some (3, true))) 0) := by
  rw [Pipeline.ownSems0_eq_of_list c osem [0, 1, 2, 3, 4, 5, 6, 7] (by decide) (by decide)]; rfl
theorem unscopedSems0_eq (c : Dev nD) : (unscopedSems0 c : sProp 𝕄) = semVal (cell c none) 0 := by
  unfold unscopedSems0; rw [bigSep_eq_bigSepL_of_eq [SemLoc.reg barS] (by decide) (by decide)]; rfl

theorem sems0_eq (c : Dev nD) :
    iprop(unscopedSems0 c ∗ Pipeline.ownSems0 (Ix := ℕ) (Name := ℕ) (U := UU) (Lvl := ℕ) (Val := Elt F) (τ := τ) osem c) = (zeros c : sProp 𝕄) := by
  unfold zeros; rw [ownSems0_eq, unscopedSems0_eq, bigSep_cl]

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd (kstg m ρ) (vstg m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  unfold zeros
  imod (show iprop((bigSep Finset.univ fun k : Cl => semVal (cell c k) 0) ∗ bigSep Finset.univ fun k : Cl => roundState ER (ringRd (kstg m ρ) (vstg m ρ)) (kcell (c, k)) 0)
      ⊢ (|={Set.univ}=> bigSep Finset.univ fun k => iprop(∃ κ : ℕ, cellInv ER (ringRd (kstg m ρ) (vstg m ρ)) κ (kcell (c, k))) : sProp 𝕄) from by
        rw [← bigSep_sep']
        exact (bigSep_mono fun k _ => (Rounds.body_intro ER (ringRd (kstg m ρ) (vstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay -/

theorem bigSep_swap {I J : Type} [DecidableEq I] [DecidableEq J] [Fintype I] [Fintype J] (Φ : I → J → sProp 𝕄) :
    bigSep Finset.univ (fun i => bigSep Finset.univ (Φ i)) = bigSep Finset.univ fun j => bigSep Finset.univ fun i => Φ i j := by
  rw [← bigSep_univ_prod (fun x : I × J => Φ x.1 x.2), ← bigSep_univ_prod (fun x : J × I => Φ x.2 x.1), bigSep_univ_equiv (Equiv.prodComm J I) (fun x : I × J => Φ x.1 x.2)]
  rfl

theorem toks_around : (bigSep Finset.univ fun c : Dev nD => (toks c : sProp 𝕄)) = bigSep Finset.univ fun c : Dev nD => payToks c := by
  unfold toks payToks
  rw [bigSep_swap, bigSep_swap (I := Dev nD)]
  exact bigSep_congr fun k _ => bigSep_univ_equiv (payee k) (tokKind k)

theorem bigSep_fin31 (Φ : ℕ → sProp 𝕄) : bigSep Finset.univ (fun j : Fin 31 => Φ j) = bigSep (Finset.Ico 0 31) Φ := by
  rw [show Finset.Ico 0 31 = (Finset.univ : Finset (Fin 31)).map Fin.valEmbedding by decide, bigSep_map]; rfl
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem linear_intro (c : Dev nD) : iprop((bigSep Finset.univ fun k : Cl => iprop(atPos ER (kcell (c, k)) 0 ∅ 0 ∗ reached ER (kcell (c, k)) 0)) ∗ payToks c)
    ⊢ (linear c : sProp 𝕄) := by
  unfold linear payToks
  rw [bigSep_fin6, show (ats c : sProp 𝕄) = bigSep Finset.univ fun k : Cl => iprop(atPos ER (kcell (c, k)) 0 ∅ 0 ∗ reached ER (kcell (c, k)) 0) from rfl]
  have e0 : (tokKind 0 (payee 0 c) : sProp 𝕄) = bigSep (Finset.Ico 0 31) fun j => dutyTok ER (cell c (some (0, par j))) (j / 2) false :=
    bigSep_fin31 fun j => (dutyTok ER (cell c (some (0, par j))) (j / 2) false : sProp 𝕄)
  have e1 : (tokKind 1 (payee 1 c) : sProp 𝕄) = bigSep (Finset.Ico 0 31) fun j => dutyTok ER (cell (rgt c) (some (1, !par j))) (j / 2) false :=
    bigSep_fin31 fun j => (dutyTok ER (cell (rgt c) (some (1, !par j))) (j / 2) false : sProp 𝕄)
  have e2 : (tokKind 2 (payee 2 c) : sProp 𝕄) = bigSep (Finset.Ico 0 31) fun j => dutyTok ER (cell c (some (2, par j))) (j / 2) false :=
    bigSep_fin31 fun j => (dutyTok ER (cell c (some (2, par j))) (j / 2) false : sProp 𝕄)
  have e3 : (tokKind 3 (payee 3 c) : sProp 𝕄) = bigSep (Finset.Ico 0 31) fun j => dutyTok ER (cell (lft c) (some (3, par j))) (j / 2) false :=
    bigSep_fin31 fun j => (dutyTok ER (cell (lft c) (some (3, par j))) (j / 2) false : sProp 𝕄)
  rw [e0, e1, e2, e3]
  iintro ⟨Ha, H0, H1, H2, H3, H4, H5⟩
  isplitl [Ha]; · iexact Ha
  isplitl [H5]
  · iapply (show (tokKind 5 (payee 5 c) : sProp 𝕄) ⊢ dutyTok ER (cell (lft c) none) 0 true from bigSep_elim (Finset.mem_univ (0 : Fin 31))); iexact H5
  isplitl [H4]
  · iapply (show (tokKind 4 (payee 4 c) : sProp 𝕄) ⊢ dutyTok ER (cell (rgt c) none) 0 false from bigSep_elim (Finset.mem_univ (0 : Fin 31))); iexact H4
  isplitl [H0 H1]
  · unfold tokK; rw [bigSep_sep']
    isplitl [H0] <;> iassumption
  · unfold FutA; rw [bigSep_sep']
    have hs : Finset.Ico 0 30 ⊆ Finset.Ico 0 31 := Finset.Ico_subset_Ico_right (by decide)
    isplitl [H2]
    · iapply (show (bigSep (Finset.Ico 0 31) fun j => dutyTok ER (cell c (some (2, par j))) (j / 2) false : sProp 𝕄) ⊢ bigSep (Finset.Ico 0 30) fun j => dutyTok ER (cell c (some (2, par j))) (j / 2) false from bigSep_subset hs); iexact H2
    · iapply (show (bigSep (Finset.Ico 0 31) fun j => dutyTok ER (cell (lft c) (some (3, par j))) (j / 2) false : sProp 𝕄) ⊢ bigSep (Finset.Ico 0 30) fun j => dutyTok ER (cell (lft c) (some (3, par j))) (j / 2) false from bigSep_subset hs); iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd (kstg m ρ) (vstg m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cl => iprop(∃ κ : ℕ, cellInv ER (ringRd (kstg m ρ) (vstg m ρ)) κ (kcell ck))), toks_around]
  iintro ⟨HI, Hat, Htok⟩
  ihave HK := (BI.bigSep_exists_pi Finset.univ (fun (ck : Dev nD × Cl) (κ : ℕ) => (cellInv ER (ringRd (kstg m ρ) (vstg m ρ)) κ (kcell ck) : sProp 𝕄))) $$ HI
  icases HK with ⟨%K, #HI⟩
  have hr : (bigSep Finset.univ fun c : Dev nD => bigSep Finset.univ fun k : Cl => iprop(atPos ER (kcell (c, k)) 0 ∅ 0 ∗ reached ER (kcell (c, k)) 0) : sProp 𝕄)
      ⊢ iprop((bigSep Finset.univ fun c : Dev nD => bigSep Finset.univ fun k : Cl => atPos ER (kcell (c, k)) 0 ∅ 0)
        ∗ bigSep Finset.univ fun ck : Dev nD × Cl => reached ER (kcell ck) 0) := by
    rw [bigSep_univ_prod (fun ck : Dev nD × Cl => (reached ER (kcell ck) 0 : sProp 𝕄)), ← bigSep_sep']
    exact Entails.of_eq (bigSep_congr fun c _ => bigSep_sep' _ _ _)
  ihave Hat := hr $$ Hat
  icases Hat with ⟨Hat, #HR⟩
  iapply (bigSep_with_persistent (R := records m ρ K)
    (Φ := fun c => iprop((bigSep Finset.univ fun k : Cl => atPos ER (kcell (c, k)) 0 ∅ 0) ∗ payToks c)) fun c _ => show _ ⊢ G' m ρ c from by
      unfold G'
      iintro ⟨#Hr, Ha, Ht⟩
      isplitr; · iexists K; iexact Hr
      iapply (linear_intro (F := F) c)
      isplitl [Ha]
      · rw [bigSep_sep']
        isplitl [Ha]; · iexact Ha
        unfold records
        icases Hr with ⟨-, #Hr⟩
        iapply (show (bigSep Finset.univ fun ck : Dev nD × Cl => (reached ER (kcell ck) 0 : sProp 𝕄)) ⊢ bigSep Finset.univ fun k : Cl => reached ER (kcell (c, k)) 0 from by
          rw [bigSep_univ_prod (fun ck : Dev nD × Cl => (reached ER (kcell ck) 0 : sProp 𝕄))]
          exact bigSep_elim (Finset.mem_univ c))
        iexact Hr
      iexact Ht)
  isplitr
  · unfold records; isplitl; · iexact HI
    iexact HR
  · rw [bigSep_sep']
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem creds_intro (c : Dev nD) : (Pipeline.launchCred O₀ c : sProp 𝕄) ⊢ creds c := by
  have hO : (O₀ : Dev nD → CellTallies nD τ sig ℕ) = fun d => ((∑ j ∈ Finset.Ico 0 31, tallyAt (cell (rgt d) (some (1, !par j))) j Nkv)
      + (∑ j ∈ Finset.Ico 0 30, tallyAt (cell (lft d) (some (3, par j))) j Nack) + tallyAt (cell (rgt d) none) 0 1) + tallyAt (cell (lft d) none) 0 1 := rfl
  rw [hO, Pipeline.launchCred_add, Pipeline.launchCred_add, Pipeline.launchCred_add, Pipeline.launchCred_sum, Pipeline.launchCred_sum]
  unfold creds FutC
  iintro ⟨⟨⟨Hk, Ha⟩, H1⟩, H2⟩
  isplitl [H1 H2]
  · ihave H1 := (Pipeline.launchCred_tallyAt (csem none) rgt lft rgt_lft lft_rgt 0 1 c) $$ H1
    ihave H2 := (Pipeline.launchCred_tallyAt (csem none) lft rgt lft_rgt rgt_lft 0 1 c) $$ H2
    rw [show (2 : ℕ) = 1 + 1 from rfl, ← tallyAt_add]
    iapply (cred_add _ _).2
    isplitl [H1] <;> iassumption
  isplitl [Hk]
  · iapply (show (bigSep (Finset.Ico 0 31) fun j => Pipeline.launchCred (fun d => tallyAt (cell (rgt d) (some (1, !par j))) j Nkv) c : sProp 𝕄)
        ⊢ bigSep (Finset.Ico 0 31) fun j => cred (tallyAt (cell c (some (1, !par j))) j Nkv) from
      bigSep_mono fun j _ => Pipeline.launchCred_tallyAt (csem (some (1, !par j))) rgt lft rgt_lft lft_rgt j Nkv c); iexact Hk
  · iapply (show (bigSep (Finset.Ico 0 30) fun j => Pipeline.launchCred (fun d => tallyAt (cell (lft d) (some (3, par j))) j Nack) c : sProp 𝕄)
        ⊢ bigSep (Finset.Ico 0 30) fun j => cred (tallyAt (cell c (some (3, par j))) j Nack) from
      bigSep_mono fun j _ => Pipeline.launchCred_tallyAt (csem (some (3, par j))) lft rgt lft_rgt rgt_lft j Nack c); iexact Ha

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' records ctx
  iintro ⟨-, Hlev, Hcr, -, ⟨%K, HI, HR⟩, Hlin⟩
  ihave Hc := (creds_intro (F := F) c) $$ Hcr
  imodintro
  isplitl
  · isplitl [Hlev HI HR]
    · iexists K
      isplitl [HI]; · iexact HI
      isplitl [HR] <;> iassumption
    isplitl [Hlin] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ kvWhole ackWhole
  iintro ⟨Hs, -, H0, H3⟩
  isplitl [Hs]; · iexact Hs
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ kvWhole ackWhole
  rw [← sems0_eq]
  iintro ⟨H0, H3, Hu, Ho⟩
  isplitl [Hu]; · iexact Hu
  isplitl [Ho]; · iexact Ho
  isplitl [H0] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_piece : θ_run defsP (onTc (τ := τ) (main (F := F))) (init m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₁ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
end
-- ==== Proof.Carry.lean ====
module

public import proofs.«01_k».proof.Proof.Lockstep
public import proofs.«01_k».proof.Proof.BodyEq
public import proofs.«01_k».proof.Proof.Launch

/-! The printed program runs in step with the one whose acknowledgements are read from the result's buffer:
    an acknowledgement falls on the acknowledgement buffer, which nothing loads. -/

@[expose] public section

set_option synthInstance.maxSize 4096

noncomputable section

namespace Cert.KernelIdeal.Ring

open Idealize.ShloMosaic Idealize.SL.Sem Idealize.ShloMosaic.Rel
open Cert.KernelIdeal Cert.KernelIdeal.Gen Cert.Lockstep

variable {F : FTy → Type} [FloatOps F] [Named F]

/-- The acknowledgement buffer, on any device. -/
def ackRef : DevRef τ sig := Proc.devRef (τ := τ) .tc cc0_scratch3
/-- Words are equal, or lie in the acknowledgement buffer. -/
def WA : WordRel nD τ sig (Elt F) := WordRel.atRef ackRef (fun _ _ _ => True) fun _ _ _ _ => trivial

theorem exact_of {c : Dev nD} {sp : Space} {s : Shape} {e : EltTy} (v : View sig .tc sp s e) (h : Proc.devRef (τ := τ) .tc v.ref ≠ ackRef) :
    (WA (F := F)).Exact (v.loc (c.tc : Thread nD τ)) := WordRel.atRef_exact_view (c := (c.tc : Thread nD τ)) v h

variable (d : Dev nD)

abbrev St {α : Type} (p p' : Prog (E0 (F := F)) α) : Prop := Pro (WA (F := F)) (d.tc : Thread nD τ) Eq p p'

theorem st_seq {α β : Type} {p p' : Prog (E0 (F := F)) α} {k k' : α → Prog (E0 (F := F)) β} (hp : St d p p') (hk : ∀ x, St d (k x) (k' x)) :
    St d (p >>= k) (p' >>= k') := hp.bind fun _ _ h => h ▸ hk _

theorem st_ret {α : Type} (x : α) : St d (F := F) (.ret x) (.ret x) := .done rfl

theorem st_lift {α : Type} {e : E0 (F := F) α} (he : EffRel (WA (F := F)) (d.tc : Thread nD τ) e e Eq) : St d (Prog.lift e) (Prog.lift e) :=
  .act (.same he) fun _ _ h => .done h

theorem st_load {sp : CoreSpace} {s : Shape} {e : EltTy} (m : Memref sig .tc sp s e) (r : LoadRect s) (h : m.view.LoadsAt r)
    (hm : Proc.devRef (τ := τ) .tc m.view.ref ≠ ackRef) : St d (F := F) (Prog.lift (.load m r h)) (Prog.lift (.load m r h)) :=
  st_lift d (.loadEq (c := (d.tc : Thread nD τ)) m r h (exact_of m.view hm))

theorem st_store {sp : CoreSpace} {s : Shape} {e : EltTy} (m : Memref sig .tc sp s e) (r : Rect s) (w : r.shape.Idx → Elt F e)
    (M : Finset r.shape.Idx) (h : (m.access r).Stores M) (hm : M = Finset.univ ∨ ∀ a, r.stride a = 1) :
    St d (F := F) (Prog.lift (.store m r w M h hm)) (Prog.lift (.store m r w M h hm)) :=
  st_lift d (.store (c := (d.tc : Thread nD τ)) m r w w M h hm fun _ => (WA (F := F)).refl _ _ _)

abbrev kvB : Memref sig .tc .vmem S2x2048x128 .bf16 := Memref.whole cc0_scratch0
abbrev ackB : Memref sig .tc .vmem S2x8x128 .f32 := Memref.whole cc0_scratch3
abbrev kvW : (kvB).IsWhole := Memref.isWhole_whole _

section
variable (arg0 arg1 arg2 : Memref sig .tc .vmem S1024x128 .bf16) (arg3 : Memref sig .tc .vmem S1024x128 .f32)
  (h0 : Proc.devRef (τ := τ) .tc arg0.view.ref ≠ ackRef) (h1 : Proc.devRef (τ := τ) .tc arg1.view.ref ≠ ackRef)
  (h2 : Proc.devRef (τ := τ) .tc arg2.view.ref ≠ ackRef) (h3 : Proc.devRef (τ := τ) .tc arg3.view.ref ≠ ackRef)
  (src src' : Bool → Memref sig .tc .vmem S8x128 .f32) (hsrc : ∀ b, (src b).view.WordExact) (hsrc' : ∀ b, (src' b).view.WordExact)

theorem kvB_ne : Proc.devRef (τ := τ) .tc (kvB).view.ref ≠ ackRef := by decide

theorem kvSlot_ne : ∀ b, Proc.devRef (τ := τ) .tc (kvSlot kvB b).view.ref ≠ ackRef := by decide

theorem st_kvSend (k : Dev nD) (b : Bool) : St d (F := F) (kvSend kvB kvW cc0_scratch1 cc0_scratch2 k b) (kvSend kvB kvW cc0_scratch1 cc0_scratch2 k b) :=
  st_lift d (.enqueue _ _ _ _ _ _ _ (exact_of (kvSlot kvB b).view (kvSlot_ne b)))
theorem st_kvWaitSend (b : Bool) : St d (F := F) (kvWaitSend kvB kvW cc0_scratch1 b) (kvWaitSend kvB kvW cc0_scratch1 b) := st_lift d (.waitDma _ _ _ _ _)
theorem st_kvWaitRecv (b : Bool) : St d (F := F) (kvWaitRecv kvB kvW cc0_scratch2 b) (kvWaitRecv kvB kvW cc0_scratch2 b) := st_lift d (.waitDma _ _ _ _ _)

theorem st_ackSend (k : Dev nD) (b : Bool) :
    St d (F := F) (ackSend ackB cc0_scratch4 cc0_scratch5 src hsrc k b) (ackSend ackB cc0_scratch4 cc0_scratch5 src' hsrc' k b) := by
  refine .act (.send (c := (d.tc : Thread nD τ)) (src b) (src' b) _ _ _ (hsrc b) (hsrc' b) _ _ ?_) fun _ _ h => .done h
  exact fun _ _ _ => .inr ⟨by cases b <;> rfl, trivial⟩

theorem st_ackWait (a : DmaSems sig S2) (b : Bool) : St d (F := F) (ackWait ackB a b) (ackWait ackB a b) := st_lift d (.waitDma _ _ _ _ _)

theorem st_barrier : St d (F := F) barrierPhase barrierPhase :=
  st_seq d (st_lift d .deviceId) fun k => st_seq d (st_lift d (.semSignal _ _ _)) fun _ => st_seq d (st_lift d (.semSignal _ _ _)) fun _ =>
    st_seq d (st_lift d (.semWait _ _)) fun _ => st_ret d k

include h0 h1 h2 in
theorem st_own : St d (F := F) (ownPhase arg0 arg1 arg2 kvB kvW) (ownPhase arg0 arg1 arg2 kvB kvW) :=
  st_seq d (st_load d _ _ _ h1) fun _ => st_seq d (st_load d _ _ _ kvB_ne) fun _ => st_seq d (st_store d _ _ _ _ _ _) fun _ =>
    st_seq d (st_load d _ _ _ h2) fun _ => st_seq d (st_load d _ _ _ kvB_ne) fun _ => st_seq d (st_store d _ _ _ _ _ _) fun _ =>
    st_seq d (st_load d _ _ _ h0) fun _ => st_seq d (st_load d _ _ _ h1) fun _ => st_seq d (st_load d _ _ _ h2) fun _ => st_ret d _

include h3 in
theorem st_end (s : Acc F) : St d (F := F) (endPhase arg3 ackB cc0_scratch4 s) (endPhase arg3 ackB cc0_scratch4 s) :=
  st_seq d (st_ackWait d _ _) fun _ => st_seq d (st_ackWait d _ _) fun _ => st_seq d (st_load d _ _ _ h3) fun _ =>
    st_seq d (st_store d _ _ _ _ _ _) fun _ => st_ret d _

theorem st_ackPhase (k : Dev nD) (h : ℕ) :
    St d (F := F) (ackPhase ackB cc0_scratch4 cc0_scratch5 src hsrc k h) (ackPhase ackB cc0_scratch4 cc0_scratch5 src' hsrc' k h) := by
  unfold ackPhase
  split
  · split
    · exact st_seq d (st_ackWait (F := F) d _ _) fun _ => st_ackSend (F := F) d src src' hsrc hsrc' k _
    · exact st_ackSend (F := F) d src src' hsrc hsrc' k _
  · exact st_ret d _

theorem st_hop (k : Dev nD) (q : FVec F S1024x128 .bf16) (h : ℕ) (s : Acc F) :
    St d (F := F) (hop kvB kvW cc0_scratch1 cc0_scratch2 ackB cc0_scratch4 cc0_scratch5 src hsrc k q h s)
      (hop kvB kvW cc0_scratch1 cc0_scratch2 ackB cc0_scratch4 cc0_scratch5 src' hsrc' k q h s) := by
  have ht := st_seq d (st_kvSend (F := F) d k (par h)) fun _ => st_seq d (st_kvWaitSend d (par h)) fun _ => st_seq d (st_kvWaitRecv d (par h)) fun _ =>
    st_seq d (st_ackPhase (F := F) d src src' hsrc hsrc' k h) fun _ =>
    st_seq d (st_load d kvB (kRect (!par h)).toLoadRect (View.loadsAt_vmem h_S1x1024x128) kvB_ne) fun x =>
    st_seq d (st_load d kvB (vRect (!par h)).toLoadRect (View.loadsAt_vmem h_S1x1024x128) kvB_ne) fun y => st_ret d (s.step q x y)
  unfold hop
  split
  · exact st_seq d (st_ackWait (F := F) d _ _) fun _ => ht
  · exact ht

theorem st_hops (k : Dev nD) (q : FVec F S1024x128 .bf16) : ∀ (n h : ℕ) (s : Acc F),
    St d (F := F) (hops kvB kvW cc0_scratch1 cc0_scratch2 ackB cc0_scratch4 cc0_scratch5 src hsrc k q n h s)
      (hops kvB kvW cc0_scratch1 cc0_scratch2 ackB cc0_scratch4 cc0_scratch5 src' hsrc' k q n h s)
  | 0, _, s => st_ret d s
  | n + 1, h, s => st_seq d (st_hop d src src' hsrc hsrc' k q h s) fun s' => st_hops k q n (h + 1) s'

include h0 h1 h2 h3 in
theorem st_body : St d (F := F)
    (body arg0 arg1 arg2 arg3 kvB kvW cc0_scratch1 cc0_scratch2 ackB cc0_scratch4 cc0_scratch5 src hsrc)
    (body arg0 arg1 arg2 arg3 kvB kvW cc0_scratch1 cc0_scratch2 ackB cc0_scratch4 cc0_scratch5 src' hsrc') :=
  st_seq d (st_barrier d) fun k => st_seq d (st_own d arg0 arg1 arg2 h0 h1 h2) fun qs => st_seq d (st_hops d src src' hsrc hsrc' k qs.1 31 0 qs.2) fun s =>
    st_end d arg3 h3 s
end

theorem stage_ne : ∀ (w : Fin 4) (s : Fin (win0 w).nbuf), Proc.devRef (τ := τ) .tc (((win0 w).stage s).view).ref ≠ ackRef := by decide
theorem arr_ne : ∀ (w : Fin 4), Proc.devRef (τ := τ) .tc ((win0 w).arr.view).ref ≠ ackRef := by decide

theorem tab₀ : Tab (WA (F := F)) defs₀ defs₁
  | (d, .tc), ⟨0, _⟩, (t, s) => by
    show Pro (WA (F := F)) (d.tc : Thread nD τ) Eq (cc0_body _ _ _ _ _ _ _ _ _ _ _ _ _ _ _ _) _
    rw [body_eq]
    exact st_body d _ _ _ _ (stage_ne 0 _) (stage_ne 1 _) (stage_ne 2 _) (stage_ne 3 _) _ _ _ _
  | (_, .tc), ⟨_ + 1, h⟩, _ => absurd h (Nat.not_lt.2 (Nat.le_add_left _ _))
  | (_, .scScalar _), ℓ, a => .enter ℓ a fun _ => .done rfl
  | (_, .scVector _ _), ℓ, a => .enter ℓ a fun _ => .done rfl

theorem tab : Tab (WA (F := F)) defs defsP :=
  Tab.pipeline (fun _ => PCfgExact.atRef _ (fun k => k.elim0) arr_ne stage_ne) tab₀

theorem st_main (c : Thread nD τ) : Pro (WA (F := F)) c Eq (onTc (τ := τ) (main (F := F)) c) (onTc (τ := τ) (main (F := F)) c) :=
  match c with
  | (_, .tc) => .region _ _ fun _ => .done rfl
  | (_, .scScalar _) => .done rfl
  | (_, .scVector _ _) => .done rfl

variable (m : (ℓ : Loc nD τ sig) → Buf (Elt F) ℓ) (ρ : Dev nD → PrngReg)

/-- The printed program's run. -/
theorem run_main : θ_run defs (onTc (τ := τ) (main (F := F))) (init m ρ) (fun r => QC m ρ r ∧ r.2.sem = fun _ => 0) :=
  carry tab st_main (init m ρ) (fun m₁ m₂ hm hQ => ⟨fun c w => (hm.eq_at (exact_of (c := c) _ (arr_ne w))).trans (hQ.1 c w), hm.sem_eq.trans hQ.2⟩)
    (run_piece m ρ)

end Cert.KernelIdeal.Ring
end
-- ==== Proof.Frames.lean ====
module

public import proofs.«01_k».proof.Defs
public import proofs.«01_k».proof.Proof.Gen.Kernel
public import proofs.«01_k».proof.Proof.Carry
public import proofs.«01_k».proof.Proof.Gen.ReferenceIdeal.Run
public import Idealize.ShloMosaic.Lib.Quiescent

/-! The frames and the named constant's statement, from the printed program's run. -/

@[expose] public section

noncomputable section

namespace Cert.Proof

open Idealize.ShloMosaic Idealize.SL.Sem
open Cert.KernelIdeal.Ring

section
variable {F : FTy → Type} [FloatOps F] [Named F]

/-- A final state of the run has the arguments as they began. -/
theorem args_of (m : (ℓ : Loc KernelIdeal.nD KernelIdeal.τ KernelIdeal.sig) → Buf (Elt F) ℓ) (ρ : Dev KernelIdeal.nD → PrngReg)
    {r} (h : QC m ρ r) (c : Dev KernelIdeal.nD) :
    r.2.mem ((c.tc : Thread KernelIdeal.nD KernelIdeal.τ).loc KernelIdeal.main_arg0) = m ((c.tc : Thread _ KernelIdeal.τ).loc KernelIdeal.main_arg0)
    ∧ r.2.mem ((c.tc : Thread KernelIdeal.nD KernelIdeal.τ).loc KernelIdeal.main_arg1) = m ((c.tc : Thread _ KernelIdeal.τ).loc KernelIdeal.main_arg1)
    ∧ r.2.mem ((c.tc : Thread KernelIdeal.nD KernelIdeal.τ).loc KernelIdeal.main_arg2) = m ((c.tc : Thread _ KernelIdeal.τ).loc KernelIdeal.main_arg2) :=
  ⟨(h c 0).trans ((dats m ρ 0 c).arrAt_in 0 rfl _), (h c 1).trans ((dats m ρ 0 c).arrAt_in 1 rfl _),
    (h c 2).trans ((dats m ρ 0 c).arrAt_in 2 rfl _)⟩
end

/-- On bit patterns a named constant reads as the pattern it was printed at. -/
local instance atBits : Named Bits := ⟨fun _ _ {_} b => FloatOps.ofBits _ b⟩

set_option maxRecDepth 40000 in
/-- On bit patterns the two programs' bodies are one. -/
theorem tbl : ∀ (p : Proc KernelIdeal.τ) (a : Fin 1) (x : KernelIdeal.Λ₀.Args a),
    @Eq (Prog (TpuEff KernelIdeal.nD KernelIdeal.τ KernelIdeal.sig (Elt Bits) KernelIdeal.Λ₀ p) _) (@Kernel.defs₀ Bits _ _ p a x) (@KernelIdeal.defs₀ Bits _ _ _ p a x)
  | .tc, ⟨0, _⟩, (_, _) => by
    exact (rfl : @Eq (Prog (TpuEff KernelIdeal.nD KernelIdeal.τ KernelIdeal.sig (Elt Bits) KernelIdeal.Λ₀ .tc) _)
      (@Kernel.cc0_body Bits _ _ _ _ _ _ _ _ _ _ _ _ _ _ _ _ _ _) (@KernelIdeal.cc0_body Bits _ _ _ _ _ _ _ _ _ _ _ _ _ _ _ _ _ _ _))
  | .tc, ⟨_ + 1, h⟩, _ => absurd h (Nat.not_lt.2 (Nat.le_add_left _ _))
  | .scScalar _, _, _ => rfl
  | .scVector _ _, _, _ => rfl

theorem tables : @Eq (Defs KernelIdeal.nD KernelIdeal.τ KernelIdeal.sig (Elt Bits) _) (@Kernel.defs Bits _ _) (@KernelIdeal.defs Bits _ _ _) :=
  congrArg (Pipeline.defs (KernelIdeal.pcfgs (F := Bits))) (funext fun p => funext fun a => funext fun x => tbl p a x)

theorem frame_p : Cert.quiescent_Kernel := fun m ρ _ => by
  have h := (θ_run (KernelIdeal.defs (F := Bits)) (onTc (τ := KernelIdeal.τ) (KernelIdeal.main (F := Bits))) (init m ρ)).mono
    (fun _ h => And.intro (args_of m ρ h.1) h.2) (run_main (F := Bits) m ρ)
  rw [← tables] at h
  exact h

theorem frame_pi : Cert.quiescent_KernelIdeal := fun m ρ _ =>
  (θ_run KernelIdeal.defs _ _).mono (fun _ h => ⟨args_of m ρ h.1, h.2⟩) (run_main (F := Ideal) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "s" .bf16 0x3DB5#16 (((Real.sqrt 128)⁻¹ : ℝ) : EReal) rfl

end Cert.Proof
end
-- ==== Proof.Finite.lean ====
module

public import proofs.«01_k».proof.Proof.Frames

/-! What the precondition says: the queries and the keys of every device are real numbers. -/

@[expose] public section

noncomputable section

namespace Cert.Proof

open Idealize.ShloMosaic Idealize.SL.Sem

theorem facts_k : Cert.Pre_queries_and_keys_finite_KernelIdeal.Facts := ⟨by decide⟩
theorem facts_r : Cert.Pre_queries_and_keys_finite_ReferenceIdeal.Facts := ⟨by decide⟩

theorem ofBits_top : Ideal.ofBits .bf16 0x7F80#16 = ⊤ := by simp [Ideal.ofBits, Ideal.ieee]

theorem real_of_abs {x : EReal} (h : Ideal.cmp .olt (max x (-x)) ⊤ = 1#1) : ∃ y : ℝ, x = (y : EReal) := by
  have hl : max x (-x) < ⊤ := by
    by_contra hn
    simp [Ideal.cmp, hn] at h
  have h1 : x ≠ ⊤ := fun e => by simp [e] at hl
  have h2 : x ≠ ⊥ := fun e => by simp [e] at hl
  exact ⟨x.toReal, (EReal.coe_toReal h1 h2).symm⟩

theorem both_one : ∀ a b : BitVec 1, a &&& b = 1#1 → a = 1#1 ∧ b = 1#1 := by decide

theorem finite_at (q k v : FVec Ideal Cert.Pre_queries_and_keys_finite_KernelIdeal.S1024x128 .bf16)
    (h : @Cert.Pre_queries_and_keys_finite_KernelIdeal.fn facts_k Ideal _ q k v = fun _ => 1#1) (i) :
    (∃ y : ℝ, q i = (y : EReal)) ∧ ∃ y : ℝ, k i = (y : EReal) := by
  have e := both_one _ _ (congrFun h i)
  refine ⟨real_of_abs ?_, real_of_abs ?_⟩
  · have := e.1; rw [← ofBits_top]; exact this
  · have := e.2; rw [← ofBits_top]; exact this

end Cert.Proof
end
-- ==== Proof.Rows.lean ====
module

public import proofs.«01_k».proof.Proof.Gen.KernelIdeal.Skeleton
public import Idealize.ShloMosaic.Lib.Pointwise
public import Idealize.ShloMosaic.PureOps.IdealRules

/-! What the body's vectors hold at an index, on extended reals. -/

@[expose] public section

noncomputable section

namespace Cert.KernelIdeal.Rows

open Idealize.ShloMosaic Cert.KernelIdeal Cert.KernelIdeal.Gen

theorem ofBits_bot : Ideal.ofBits .f32 0xFF800000#32 = ⊥ := by simp [Ideal.ofBits, Ideal.ieee]

/-- The score of row `r` of the queries against row `j` of the keys. -/
def score (q k : FVec Ideal S1024x128 .bf16) (r j : Fin 1024) : EReal := ∑ i : Fin 128, q (ix2 r i) * k (ix2 j i)

theorem scaled (q : Vec Ideal S1024x128 .bf16) (r : Fin 1024) (i : Fin 128) :
    k0_pay4 (F := Ideal) q (ix2 r i) = q (ix2 r i) * (((Real.sqrt 128)⁻¹ : ℝ) : EReal) := by
  pointwise [k0_pay4]
  rw [IdealRules.named_const.ideal_named_scalar _ _ _ _ rfl]

variable (q k v : FVec Ideal S1024x128 .bf16) (m l : FVec Ideal S1024x1 .f32) (a : FVec Ideal S1024x128 .f32)

theorem scores (r j : Fin 1024) : k0_pay15 (F := Ideal) q (k0_pay2 (F := Ideal) k) (ix2 r j) = score q k r j := by
  pointwise [k0_pay15, k0_pay2, score]

theorem first_scores (r j : Fin 1024) : k0_pay7 (F := Ideal) q k (ix2 r j) = score (k0_pay4 q) k r j := by
  pointwise [k0_pay7, score]

theorem step_m (r : Fin 1024) :
    k0_pay16 (F := Ideal) q m (k0_pay2 (F := Ideal) k) (ix2 r 0) = max (m (ix2 r 0)) (Finset.univ.fold max ⊥ fun j => score q k r j) := by
  pointwise [k0_pay16, scores, ofBits_bot]

theorem step_p (r j : Fin 1024) : k0_pay17 (F := Ideal) q m (k0_pay2 (F := Ideal) k) (ix2 r j)
    = Ideal.exp (score q k r j - k0_pay16 (F := Ideal) q m (k0_pay2 (F := Ideal) k) (ix2 r 0)) := by
  pointwise [k0_pay17, scores]

theorem step_c (r : Fin 1024) : k0_pay18 (F := Ideal) q m (k0_pay2 (F := Ideal) k) (ix2 r 0)
    = Ideal.exp (m (ix2 r 0) - k0_pay16 (F := Ideal) q m (k0_pay2 (F := Ideal) k) (ix2 r 0)) := by
  pointwise [k0_pay18]

theorem step_l (r : Fin 1024) : k0_pay19 (F := Ideal) q m l (k0_pay2 (F := Ideal) k) (ix2 r 0)
    = l (ix2 r 0) * Ideal.exp (m (ix2 r 0) - k0_pay16 (F := Ideal) q m (k0_pay2 (F := Ideal) k) (ix2 r 0))
      + ∑ j, Ideal.exp (score q k r j - k0_pay16 (F := Ideal) q m (k0_pay2 (F := Ideal) k) (ix2 r 0)) := by
  pointwise [k0_pay19, step_c, step_p]

theorem step_a (r : Fin 1024) (c : Fin 128) : k0_pay20 (F := Ideal) q m a (k0_pay2 (F := Ideal) k) (k0_pay3 (F := Ideal) v) (ix2 r c)
    = a (ix2 r c) * Ideal.exp (m (ix2 r 0) - k0_pay16 (F := Ideal) q m (k0_pay2 (F := Ideal) k) (ix2 r 0))
      + ∑ j, Ideal.exp (score q k r j - k0_pay16 (F := Ideal) q m (k0_pay2 (F := Ideal) k) (ix2 r 0)) * v (ix2 j c) := by
  pointwise [k0_pay20, k0_pay3, step_c, step_p]

theorem first_m (r : Fin 1024) :
    k0_pay8 (F := Ideal) q k (ix2 r 0) = max ⊥ (Finset.univ.fold max ⊥ fun j => score (k0_pay4 q) k r j) := by
  pointwise [k0_pay8, k0_pay5, first_scores, ofBits_bot]

theorem first_p (r j : Fin 1024) : k0_pay9 (F := Ideal) q k (ix2 r j)
    = Ideal.exp (score (k0_pay4 q) k r j - k0_pay8 (F := Ideal) q k (ix2 r 0)) := by
  pointwise [k0_pay9, first_scores]

theorem first_c (r : Fin 1024) : k0_pay10 (F := Ideal) q k (ix2 r 0) = Ideal.exp (⊥ - k0_pay8 (F := Ideal) q k (ix2 r 0)) := by
  pointwise [k0_pay10, k0_pay5, ofBits_bot]

theorem first_l (r : Fin 1024) : k0_pay11 (F := Ideal) q k (ix2 r 0)
    = 0 * Ideal.exp (⊥ - k0_pay8 (F := Ideal) q k (ix2 r 0)) + ∑ j, Ideal.exp (score (k0_pay4 q) k r j - k0_pay8 (F := Ideal) q k (ix2 r 0)) := by
  pointwise [k0_pay11, first_c, first_p]

theorem first_a (r : Fin 1024) (c : Fin 128) : k0_pay14 (F := Ideal) (k0_pay6 v) (k0_pay12 q k) (k0_pay13 q k) (ix2 r c)
    = 0 * Ideal.exp (⊥ - k0_pay8 (F := Ideal) q k (ix2 r 0))
      + ∑ j, Ideal.exp (score (k0_pay4 q) k r j - k0_pay8 (F := Ideal) q k (ix2 r 0)) * v (ix2 j c) := by
  pointwise [k0_pay14, k0_pay6, k0_pay12, k0_pay13, first_c, first_p]

theorem last_o (r : Fin 1024) (c : Fin 128) : k0_pay1 (F := Ideal) l a (ix2 r c) = Ideal.div (a (ix2 r c)) (l (ix2 r 0)) := by
  pointwise [k0_pay1]

end Cert.KernelIdeal.Rows
end
-- ==== Proof.Softmax.lean ====
module

public import Idealize.ShloMosaic.PureOps.Ideal

/-! The running softmax of one row, on extended reals: scores are real, values are any extended reals. Blocks
    come one after another; whatever real number each exponential is taken against, the quotient at the end
    is the plain softmax's. -/

@[expose] public section

noncomputable section

namespace Cert.Softmax

open Idealize.ShloMosaic

theorem coe_sum {ι : Type*} (T : Finset ι) (f : ι → ℝ) : ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

theorem mul_sum {ι : Type*} {r : ℝ} (hr : 0 ≤ r) (T : Finset ι) (f : ι → EReal) :
    (r : EReal) * ∑ i ∈ T, f i = ∑ i ∈ T, (r : EReal) * f i := by
  classical
  induction T using Finset.induction_on with
  | empty => simp
  | insert a T ha ih =>
    rw [Finset.sum_insert ha, Finset.sum_insert ha,
      EReal.left_distrib_of_nonneg_of_ne_top (EReal.coe_nonneg.2 hr) (EReal.coe_ne_top r), ih]

/-- The greatest of finitely many reals is real. -/
theorem fold_real {ι : Type*} [Fintype ι] [Nonempty ι] (s : ι → ℝ) :
    ∃ M : ℝ, Finset.univ.fold max (⊥ : EReal) (fun i => (s i : EReal)) = M := by
  have hb : (⊥ : EReal) < Finset.univ.fold max (⊥ : EReal) (fun i => (s i : EReal)) :=
    (Finset.lt_fold_max _).2 (.inr ⟨Classical.arbitrary ι, Finset.mem_univ _, EReal.bot_lt_coe _⟩)
  have ht : Finset.univ.fold max (⊥ : EReal) (fun i => (s i : EReal)) < ⊤ :=
    (Finset.fold_max_lt _).2 ⟨bot_lt_top, fun i _ => EReal.coe_lt_top _⟩
  exact ⟨_, (EReal.coe_toReal ht.ne hb.ne').symm⟩

variable {J : Type*} [Fintype J]

/-- What the first `n` blocks' exponentials against `M` come to. -/
def den (S : ℕ → J → ℝ) (n : ℕ) (M : ℝ) : ℝ := ∑ h ∈ Finset.range n, ∑ j, Real.exp (S h j - M)
/-- The values of the first `n` blocks weighted by their exponentials against `M`. -/
def num (S : ℕ → J → ℝ) (V : ℕ → J → EReal) (n : ℕ) (M : ℝ) : EReal :=
  ∑ h ∈ Finset.range n, ∑ j, ((Real.exp (S h j - M) : ℝ) : EReal) * V h j

/-- The state after `n` blocks. -/
def Run (S : ℕ → J → ℝ) (V : ℕ → J → EReal) (n : ℕ) (m l a : EReal) : Prop :=
  ∃ M : ℝ, m = M ∧ l = (den S n M : EReal) ∧ a = num S V n M

theorem den_shift (S : ℕ → J → ℝ) (n : ℕ) (M M' : ℝ) : den S n M * Real.exp (M - M') = den S n M' := by
  unfold den
  rw [Finset.sum_mul]
  refine Finset.sum_congr rfl fun h _ => ?_
  rw [Finset.sum_mul]
  exact Finset.sum_congr rfl fun j _ => by rw [← Real.exp_add]; congr 1; ring

theorem num_shift (S : ℕ → J → ℝ) (V : ℕ → J → EReal) (n : ℕ) (M M' : ℝ) :
    num S V n M * ((Real.exp (M - M') : ℝ) : EReal) = num S V n M' := by
  unfold num
  rw [mul_comm, mul_sum (Real.exp_pos _).le]
  refine Finset.sum_congr rfl fun h _ => ?_
  rw [mul_sum (Real.exp_pos _).le]
  refine Finset.sum_congr rfl fun j _ => ?_
  rw [← mul_assoc, ← EReal.coe_mul, ← Real.exp_add]
  congr 3; ring

theorem sum_exp (s : J → ℝ) (M : ℝ) :
    ∑ j, Ideal.exp ((s j : EReal) - (M : EReal)) = ((∑ j, Real.exp (s j - M) : ℝ) : EReal) := by
  rw [coe_sum]
  exact Finset.sum_congr rfl fun j _ => by rw [← EReal.coe_sub, Ideal.exp_coe]

theorem sum_exp_mul (s : J → ℝ) (v : J → EReal) (M : ℝ) :
    ∑ j, Ideal.exp ((s j : EReal) - (M : EReal)) * v j = ∑ j, ((Real.exp (s j - M) : ℝ) : EReal) * v j :=
  Finset.sum_congr rfl fun j _ => by rw [← EReal.coe_sub, Ideal.exp_coe]

variable [Nonempty J]

/-- The first block. -/
theorem Run.first (S : ℕ → J → ℝ) (V : ℕ → J → EReal) {m l a : EReal}
    (hm : m = max ⊥ (Finset.univ.fold max ⊥ fun j => (S 0 j : EReal)))
    (hl : l = 0 * Ideal.exp (⊥ - m) + ∑ j, Ideal.exp ((S 0 j : EReal) - m))
    (ha : a = 0 * Ideal.exp (⊥ - m) + ∑ j, Ideal.exp ((S 0 j : EReal) - m) * V 0 j) : Run S V 1 m l a := by
  obtain ⟨M, hM⟩ := fold_real (S 0)
  rw [hM, max_eq_right bot_le] at hm
  refine ⟨M, hm, ?_, ?_⟩
  · rw [hl, hm, zero_mul, zero_add, sum_exp, den, Finset.sum_range_one]
  · rw [ha, hm, zero_mul, zero_add, sum_exp_mul, num, Finset.sum_range_one]

/-- One more block. -/
theorem Run.step {S : ℕ → J → ℝ} {V : ℕ → J → EReal} {n : ℕ} {m l a m' l' a' : EReal} (h : Run S V n m l a)
    (hm : m' = max m (Finset.univ.fold max ⊥ fun j => (S n j : EReal)))
    (hl : l' = l * Ideal.exp (m - m') + ∑ j, Ideal.exp ((S n j : EReal) - m'))
    (ha : a' = a * Ideal.exp (m - m') + ∑ j, Ideal.exp ((S n j : EReal) - m') * V n j) : Run S V (n + 1) m' l' a' := by
  obtain ⟨M, rfl, rfl, rfl⟩ := h
  obtain ⟨B, hB⟩ := fold_real (S n)
  rw [hB, ← EReal.coe_strictMono.monotone.map_max] at hm
  subst hm
  refine ⟨max M B, rfl, ?_, ?_⟩
  · rw [hl, sum_exp, ← EReal.coe_sub, Ideal.exp_coe, ← EReal.coe_mul, ← EReal.coe_add, den_shift, den, den, Finset.sum_range_succ]
  · rw [ha, sum_exp_mul, ← EReal.coe_sub, Ideal.exp_coe, num_shift, num, num, Finset.sum_range_succ]

theorem den_pos (S : ℕ → J → ℝ) {n : ℕ} (hn : 0 < n) (M : ℝ) : 0 < den S n M :=
  Finset.sum_pos (fun _ _ => Finset.sum_pos (fun _ _ => Real.exp_pos _) Finset.univ_nonempty) (Finset.nonempty_range_iff.2 hn.ne')

/-- The quotient at the end, against any real. -/
theorem Run.quot {S : ℕ → J → ℝ} {V : ℕ → J → EReal} {n : ℕ} (hn : 0 < n) {m l a : EReal} (h : Run S V n m l a) (M : ℝ) :
    Ideal.div a l = ∑ h ∈ Finset.range n, ∑ j, Ideal.div (Ideal.exp ((S h j : EReal) - (M : EReal))) (den S n M : EReal) * V h j := by
  obtain ⟨M₀, -, rfl, rfl⟩ := h
  have h0 := (den_pos S hn M₀).ne'
  have h1 := (den_pos S hn M).ne'
  have e : (1 / den S n M₀ : ℝ) = Real.exp (M₀ - M) * (1 / den S n M) := by
    rw [← den_shift S n M₀ M]
    field_simp
  rw [Ideal.div_coe h0, e, EReal.coe_mul, ← mul_assoc, num_shift, num, mul_comm, mul_sum (one_div_nonneg.2 (den_pos S hn M).le)]
  refine Finset.sum_congr rfl fun h _ => ?_
  rw [mul_sum (one_div_nonneg.2 (den_pos S hn M).le)]
  refine Finset.sum_congr rfl fun j _ => ?_
  rw [Ideal.div_coe h1, ← EReal.coe_sub, Ideal.exp_coe, ← mul_assoc, mul_comm ((1 / den S n M : ℝ) : EReal)]

end Cert.Softmax
end
-- ==== Proof.Value.lean ====
module

public import proofs.«01_k».proof.Proof.Device
public import proofs.«01_k».proof.Proof.Rows
public import proofs.«01_k».proof.Proof.Softmax

/-! What a device computes, at an index: the plain softmax's weighted values, the blocks taken in the ring's order. -/

@[expose] public section

set_option maxRecDepth 40000

noncomputable section

namespace Cert.KernelIdeal.Ring

open Idealize.ShloMosaic Cert.KernelIdeal Cert.KernelIdeal.Gen

/-- The row of the whole array at which row `j` of device `d`'s block lies. -/
def row (d : Dev nD) (j : Fin 1024) : Fin 32768 := ⟨d.val * 1024 + j.val, by have := d.isLt; have := j.isLt; unfold nD at *; omega⟩

theorem lft_sub : ∀ d : Dev nD, lft d = (d - (1 : Fin 32) : Fin 32) := by decide

theorem org_sub (c : Dev nD) : ∀ h : ℕ, org c h = (c - h • (1 : Fin 32) : Fin 32)
  | 0 => by rw [zero_smul, sub_zero]; rfl
  | h + 1 => by
    rw [succ_nsmul, ← sub_sub, ← org_sub c h, ← lft_sub]
    exact Function.iterate_succ_apply' _ _ _

theorem turns : ∀ d : Fin 32, d.val • (1 : Fin 32) = d := by decide

/-- The blocks met on the way round are all the blocks. -/
theorem sum_blocks {A : Type*} [AddCommMonoid A] (c : Dev nD) (f : Fin 32768 → A) :
    ∑ h ∈ Finset.range 32, ∑ j : Fin 1024, f (row (org c h) j) = ∑ T, f T := by
  rw [Finset.sum_range (fun h => ∑ j : Fin 1024, f (row (org c h) j))]
  have e : ∀ h : Fin 32, org c h.val = (Equiv.subLeft (c : Fin 32)) h := fun h => by
    rw [org_sub, turns]; rfl
  simp only [e]
  rw [Equiv.sum_comp (Equiv.subLeft (c : Fin 32)) (fun d => ∑ j : Fin 1024, f (row d j)), ← Fintype.sum_prod_type' (fun d j => f (row d j))]
  refine Fintype.sum_equiv (finProdFinEquiv.trans (finCongr (by norm_num))) _ _ fun x => congrArg f (Fin.ext ?_)
  show x.1.val * 1024 + x.2.val = x.2.val + 1024 * x.1.val
  omega

variable (Kc Vc : Dev nD → Vec Ideal S1024x128 .bf16) (c : Dev nD) (q : FVec Ideal S1024x128 .bf16) (r : Fin 1024) (b : Fin 128)
variable {S : ℕ → Fin 1024 → ℝ} (hS : ∀ h j, Rows.score q (Kc (org c h)) r j = (S h j : EReal))
include hS

theorem acc_run : ∀ (n h : ℕ) (s : Acc Ideal),
    Softmax.Run S (fun h j => Vc (org c h) (ix2 j b)) (h + 1) (s.m (ix2 r 0)) (s.l (ix2 r 0)) (s.a (ix2 r b)) →
    Softmax.Run S (fun h j => Vc (org c h) (ix2 j b)) (h + 1 + n) ((accFrom Kc Vc c q n h s).m (ix2 r 0))
      ((accFrom Kc Vc c q n h s).l (ix2 r 0)) ((accFrom Kc Vc c q n h s).a (ix2 r b))
  | 0, _, _, H => H
  | n + 1, h, s, H => by
    rw [show h + 1 + (n + 1) = (h + 1) + 1 + n by omega]
    refine acc_run n (h + 1) _ (H.step ?_ ?_ ?_)
    · exact (Rows.step_m q (Kc (org c (h + 1))) s.m r).trans (by simp only [hS])
    · exact (Rows.step_l q (Kc (org c (h + 1))) s.m s.l r).trans (by simp only [hS]; rfl)
    · exact (Rows.step_a q (Kc (org c (h + 1))) (Vc (org c (h + 1))) s.m s.a r b).trans (by simp only [hS]; rfl)

end Cert.KernelIdeal.Ring

namespace Cert.KernelIdeal.Ring

open Idealize.ShloMosaic Cert.KernelIdeal Cert.KernelIdeal.Gen

variable (Kc Vc : Dev nD → Vec Ideal S1024x128 .bf16) (c : Dev nD) (q : Vec Ideal S1024x128 .bf16) (r : Fin 1024) (b : Fin 128)

/-- The result at an index, against any real number. -/
theorem out_at {S : ℕ → Fin 1024 → ℝ} (hS : ∀ h j, Rows.score (k0_pay4 (F := Ideal) q) (Kc (org c h)) r j = (S h j : EReal)) (M : ℝ) :
    outOf Kc Vc c q (ix2 r b) = ∑ h ∈ Finset.range 32, ∑ j : Fin 1024,
      Ideal.div (Ideal.exp ((S h j : EReal) - (M : EReal))) (Softmax.den S 32 M : EReal) * Vc (org c h) (ix2 j b) := by
  have h0 : ∀ j, Rows.score (k0_pay4 (F := Ideal) q) (Kc c) r j = (S 0 j : EReal) := hS 0
  refine (Rows.last_o _ _ r b).trans (Softmax.Run.quot (by norm_num) (acc_run Kc Vc c (k0_pay4 q) r b hS 31 0 _ (Softmax.Run.first S _ ?_ ?_ ?_)) M)
  · exact (Rows.first_m q (Kc c) r).trans (by simp only [h0])
  · exact (Rows.first_l q (Kc c) r).trans (by simp only [h0]; rfl)
  · exact (Rows.first_a q (Kc c) (Vc c) r b).trans (by simp only [h0]; rfl)

/-- A device's scores, when its queries and all keys are blocks of real arrays. -/
theorem score_real {Q K : (⟨2, ![32768, 128]⟩ : Shape).Idx → ℝ} (hq : ∀ j i, q (ix2 j i) = (Q (ix2 (row c j) i) : EReal))
    (hk : ∀ d j i, Kc d (ix2 j i) = (K (ix2 (row d j) i) : EReal)) (d : Dev nD) (j : Fin 1024) :
    Rows.score (k0_pay4 (F := Ideal) q) (Kc d) r j
      = (((∑ i : Fin 128, Q (ix2 (row c r) i) * K (ix2 (row d j) i)) * (Real.sqrt 128)⁻¹ : ℝ) : EReal) := by
  rw [Rows.score, Finset.sum_mul, Softmax.coe_sum]
  refine Finset.sum_congr rfl fun i _ => ?_
  rw [Rows.scaled, hq, hk, ← EReal.coe_mul, ← EReal.coe_mul]
  congr 1
  ring

end Cert.KernelIdeal.Ring
end
-- ==== Proof.Reference.lean ====
module

public import proofs.«01_k».proof.Proof.Gen.ReferenceIdeal
public import proofs.«01_k».proof.Proof.Softmax
public import Idealize.ShloMosaic.Lib.Pointwise

/-! What the reference's result holds at an index, on extended reals, for real queries and keys. -/

@[expose] public section

noncomputable section

namespace Cert.ReferenceIdeal.Rows

open Idealize.ShloMosaic Cert.ReferenceIdeal Cert.ReferenceIdeal.Gen

theorem ofBits_bot : Ideal.ofBits .f32 0xFF800000#32 = ⊥ := by simp [Ideal.ofBits, Ideal.ieee]
theorem ofBits_width : Ideal.ofBits .f32 0x43000000#32 = ((128 : ℝ) : EReal) := by
  simp [Ideal.ofBits, Ideal.ieee, -EReal.coe_mul]; norm_num

/-- The scaled scores. -/
def logits (q k : FVec Ideal S32768x128 .bf16) : FVec Ideal S32768x32768 .f32 :=
  Host.divf (Host.dotGeneral dot_S32768x128_S32768x128_S32768x32768_1_1_0_0_n_n none q k)
    (broadcastInDim S32768x32768 ![] bcast_S_S32768x32768 (id (Host.sqrt (constant S_ .f32 0x43000000#32))))

/-- A vector with one entry for each row, along the rows. -/
def wide (x : FVec Ideal S32768 .f32) : FVec Ideal S32768x32768 .f32 :=
  broadcastInDim S32768x32768 ![0, 1] bcast_S32768x1_S32768x32768_0_1 (broadcastInDim S32768x1 ![0] bcast_S32768_S32768x1_0 x)

def tops (x : FVec Ideal S32768x32768 .f32) : FVec Ideal S32768 .f32 :=
  Host.reduce FloatOps.maximumf x (constant S_ .f32 0xFF800000#32) reducesTo_S32768x32768_S32768_d1 h_S_

def sums (x : FVec Ideal S32768x32768 .f32) : FVec Ideal S32768 .f32 :=
  Host.reduceAdd x (constant S_ .f32 0x00000000#32) reducesTo_S32768x32768_S32768_d1 h_S_

def exps (x : FVec Ideal S32768x32768 .f32) : FVec Ideal S32768x32768 .f32 := Host.exp (subf x (wide (tops x)))

/-- The whole result. -/
def attention (q k v : FVec Ideal S32768x128 .bf16) : FVec Ideal S32768x128 .f32 :=
  Host.dotGeneral dot_S32768x32768_S32768x128_S32768x128_1_0_0_1_n_n none
    (Host.divf (exps (logits q k)) (wide (sums (exps (logits q k))))) (extf .f32 v bitsLt_bf16_f32)

variable (q k v : FVec Ideal S32768x128 .bf16) (x : FVec Ideal S32768x32768 .f32)

theorem logits_at (R T : Fin 32768) :
    logits q k (ix2 R T) = Ideal.div (∑ i : Fin 128, q (ix2 R i) * k (ix2 T i)) (Ideal.sqrt (Ideal.ofBits .f32 0x43000000#32)) := by
  pointwise [logits]
  rfl

theorem wide_at (y : FVec Ideal S32768 .f32) (R T : Fin 32768) : wide y (ix2 R T) = y (ix1 R) := by
  pointwise [wide]

theorem tops_at (R : Fin 32768) : tops x (ix1 R) = Finset.univ.fold max ⊥ fun T : Fin 32768 => x (ix2 R T) := by
  pointwise [tops, ofBits_bot]

theorem sums_at (R : Fin 32768) : sums x (ix1 R) = ∑ T : Fin 32768, x (ix2 R T) := by
  pointwise [sums]

theorem exps_at (R T : Fin 32768) : exps x (ix2 R T) = Ideal.exp (x (ix2 R T) - tops x (ix1 R)) := by
  pointwise [exps, wide_at]

theorem attention_at (R : Fin 32768) (c : Fin 128) : attention q k v (ix2 R c)
    = ∑ T : Fin 32768, Ideal.div (exps (logits q k) (ix2 R T)) (sums (exps (logits q k)) (ix1 R)) * v (ix2 T c) := by
  pointwise [attention, wide_at]

/-- The score of row `R` against row `T`, for real queries and keys. -/
def real (Q K : S32768x128.Idx → ℝ) (R T : Fin 32768) : ℝ := (∑ i : Fin 128, Q (ix2 R i) * K (ix2 T i)) * (Real.sqrt 128)⁻¹

variable {q k} {Q K : S32768x128.Idx → ℝ} (hq : ∀ i, q i = (Q i : EReal)) (hk : ∀ i, k i = (K i : EReal))
include hq hk

theorem logits_real (R T : Fin 32768) : logits q k (ix2 R T) = (real Q K R T : EReal) := by
  have h0 : Real.sqrt 128 ≠ 0 := (Real.sqrt_pos.2 (by norm_num)).ne'
  rw [logits_at, ofBits_width, Ideal.sqrt_coe, if_neg (by norm_num), Ideal.div_coe h0, real, EReal.coe_mul, Softmax.coe_sum, one_div]
  congr 1
  exact Finset.sum_congr rfl fun i _ => by rw [hq, hk, EReal.coe_mul]

/-- The result at an index: the plain softmax's weights against a real number. -/
theorem attention_real (R : Fin 32768) (c : Fin 128) : ∃ M : ℝ, attention q k v (ix2 R c)
    = ∑ T : Fin 32768, Ideal.div (Ideal.exp ((real Q K R T : EReal) - (M : EReal))) ((∑ T, Real.exp (real Q K R T - M) : ℝ) : EReal) * v (ix2 T c) := by
  obtain ⟨M, hM⟩ := Softmax.fold_real (fun T : Fin 32768 => real Q K R T)
  have ht : tops (logits q k) (ix1 R) = (M : EReal) := by
    rw [tops_at, ← hM]
    exact congrArg (Finset.fold max ⊥ · Finset.univ) (funext fun T => logits_real hq hk R T)
  have he : ∀ T, exps (logits q k) (ix2 R T) = Ideal.exp ((real Q K R T : EReal) - (M : EReal)) := fun T => by
    rw [exps_at, ht, logits_real hq hk]
  refine ⟨M, ?_⟩
  rw [attention_at, sums_at, ← Softmax.sum_exp]
  simp only [he]

end Cert.ReferenceIdeal.Rows
end
-- ==== Proof.Algebraic.lean ====
module

public import proofs.«01_k».proof.Proof.Finite
public import proofs.«01_k».proof.Proof.Value
public import proofs.«01_k».proof.Proof.Reference

/-! The value claim: each device's result is its block of the reference's. -/

@[expose] public section

set_option maxRecDepth 40000

noncomputable section

namespace Cert.KernelIdeal.Ring

open Idealize.ShloMosaic Idealize.ShloMosaic.TcCoe Cert.KernelIdeal Cert.KernelIdeal.Gen

section
variable {F : FTy → Type} [FloatOps F] [Named F] (m : (ℓ : Loc nD τ sig) → Buf (Elt F) ℓ) (ρ : Dev nD → PrngReg) (c : Dev nD)

theorem qstg_eq : qstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem kstg_eq : kstg m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
theorem vstg_eq : vstg m ρ c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _

/-- The result's array ends holding what the device computes. -/
theorem final_out : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (off := fun a => (win0_3.index (0 : Fin 1)) a * main_v1.ty.shape.size a)
    (funext fun a => by fin_cases a <;> decide) (fun a => by fin_cases a <;> decide) _).symm.trans h
end

/-- Where a device's block lies in the whole. -/
theorem block_at {α : Type} (d : Dev nD) (v : (⟨2, ![32768, 128]⟩ : Shape).Idx → α) (j : Fin 1024) (i : Fin 128) :
    (Layout.block ⟨2, ![1024, 128]⟩ ⟨2, ![32768, 128]⟩ 0 32 d v : (⟨2, ![1024, 128]⟩ : Shape).Idx → α) (ix2 j i) = v (ix2 (row d j) i) := by
  rw [Layout.block_apply]
  refine congrArg v (funext fun a => Fin.ext ?_)
  fin_cases a <;> rfl

/-- Every row of the whole lies in some device's block. -/
theorem row_surj (R : Fin 32768) : ∃ d j, row d j = R :=
  ⟨⟨R.val / 1024, by have := R.isLt; unfold nD; omega⟩, ⟨R.val % 1024, Nat.mod_lt _ (by norm_num)⟩, Fin.ext (by show R.val / 1024 * 1024 + R.val % 1024 = R.val; omega)⟩

/-- What a device computes of its blocks is its block of the attention of the whole arrays. -/
theorem out_block (Qc Kc Vc : Dev nD → Vec Ideal S1024x128 .bf16) (q k v : FVec Ideal Cert.ReferenceIdeal.S32768x128 .bf16)
    (hQ : ∀ d, Qc d = Layout.block ⟨2, ![1024, 128]⟩ ⟨2, ![32768, 128]⟩ 0 32 d q)
    (hK : ∀ d, Kc d = Layout.block ⟨2, ![1024, 128]⟩ ⟨2, ![32768, 128]⟩ 0 32 d k)
    (hV : ∀ d, Vc d = Layout.block ⟨2, ![1024, 128]⟩ ⟨2, ![32768, 128]⟩ 0 32 d v)
    (fin : ∀ d i, (∃ y : ℝ, Qc d i = (y : EReal)) ∧ ∃ y : ℝ, Kc d i = (y : EReal)) (c : Dev nD) :
    outOf Kc Vc c (Qc c) = Layout.block ⟨2, ![1024, 128]⟩ ⟨2, ![32768, 128]⟩ 0 32 c (Cert.ReferenceIdeal.Rows.attention q k v) := by
  have atQ : ∀ d j i, Qc d (ix2 j i) = q (ix2 (row d j) i) := fun d j i => by rw [hQ, block_at]
  have atK : ∀ d j i, Kc d (ix2 j i) = k (ix2 (row d j) i) := fun d j i => by rw [hK, block_at]
  have atV : ∀ d j i, Vc d (ix2 j i) = v (ix2 (row d j) i) := fun d j i => by rw [hV, block_at]
  have realQ : ∀ i, ∃ y : ℝ, q i = (y : EReal) := fun i => by
    obtain ⟨d, j, e⟩ := row_surj (i 0)
    obtain ⟨y, hy⟩ := (fin d (ix2 j (i 1))).1
    exact ⟨y, (congrArg q ((eq_ix2 i).trans (by rw [e]))).trans ((atQ d j (i 1)).symm.trans hy)⟩
  have realK : ∀ i, ∃ y : ℝ, k i = (y : EReal) := fun i => by
    obtain ⟨d, j, e⟩ := row_surj (i 0)
    obtain ⟨y, hy⟩ := (fin d (ix2 j (i 1))).2
    exact ⟨y, (congrArg k ((eq_ix2 i).trans (by rw [e]))).trans ((atK d j (i 1)).symm.trans hy)⟩
  choose Q hq using realQ
  choose K hk using realK
  have key : ∀ (r : Fin 1024) (b : Fin 128), outOf Kc Vc c (Qc c) (ix2 r b) = Cert.ReferenceIdeal.Rows.attention q k v (ix2 (row c r) b) := by
    intro r b
    obtain ⟨M, hM⟩ := Cert.ReferenceIdeal.Rows.attention_real v hq hk (row c r) b
    refine Eq.trans ?_ hM.symm
    refine (out_at Kc Vc c (Qc c) r b (S := fun h j => Cert.ReferenceIdeal.Rows.real Q K (row c r) (row (org c h) j)) (fun h j => ?_) M).trans ?_
    · exact score_real Kc c (Qc c) r (fun j i => (atQ c j i).trans (hq _)) (fun d j i => (atK d j i).trans (hk _)) (org c h) j
    · rw [Softmax.den, sum_blocks c (fun T => Real.exp (Cert.ReferenceIdeal.Rows.real Q K (row c r) T - M))]
      simp only [atV]
      exact sum_blocks c (fun T => Ideal.div (Ideal.exp ((Cert.ReferenceIdeal.Rows.real Q K (row c r) T : EReal) - (M : EReal)))
        ((∑ T, Real.exp (Cert.ReferenceIdeal.Rows.real Q K (row c r) T - M) : ℝ) : EReal) * v (ix2 T b))
  funext x
  exact (congrArg _ (eq_ix2 x)).trans ((key (x 0) (x 1)).trans ((block_at c _ (x 0) (x 1)).symm.trans (congrArg _ (eq_ix2 x)).symm))

end Cert.KernelIdeal.Ring

namespace Cert.Proof

open Idealize.ShloMosaic Idealize.SL.Sem
open Cert.KernelIdeal.Ring

theorem algebraic : Cert.algebraic_KernelIdeal_ReferenceIdeal_pre_queries_and_keys_finite_KernelIdeal
    (hKernelIdeal := Cert.KernelIdeal.Gen.facts) (hReferenceIdeal := Cert.ReferenceIdeal.Gen.facts)
    (hPre_queries_and_keys_finite_KernelIdeal := facts_k) := fun m g m' g' hp hb => by
  refine ⟨_, ?_, (θ_run _ _ _).mono (fun r h => h 0) (Cert.ReferenceIdeal.Value.run (F := Ideal) m' g')⟩
  refine (θ_run _ _ _).mono (fun r h c => ⟨?_, args_of m g h.1 c⟩) (run_main (F := Ideal) m g)
  refine (h.1 c (3 : Fin 4)).trans ((final_out m g c).trans ?_)
  refine (congrFun (congrFun (congrArg₂ (fun a b => outOf a b) (funext (kstg_eq m g)) (funext (vstg_eq m g))) c) (qstg m g c)).trans ?_
  rw [qstg_eq]
  exact out_block (fun d => m ((d.tc : Thread _ KernelIdeal.τ).loc KernelIdeal.main_arg0)) _ _ _ _ _
    (fun d => (hb d).1) (fun d => (hb d).2.1) (fun d => (hb d).2.2) (fun d i => finite_at _ _ _ (hp d) i) c

end Cert.Proof
end
-- ==== Proof.lean ====
/- The proof of the certificate's claims. -/
module

public import proofs.«01_k».proof.Proof.Algebraic

@[expose] public section

noncomputable section

namespace Cert.Proof

/-- The frames that state the precondition do not read it. -/
theorem claim : Cert.Claim :=
  ⟨Cert.Kernel.Gen.facts, Cert.KernelIdeal.Gen.facts, Cert.ReferenceIdeal.Gen.facts, facts_k, facts_r,
    frame_p, frame_pi, fun m g _ => frame_pi m g trivial, frame_ri, fun m g _ => frame_ri m g trivial, preserves, algebraic⟩

end Cert.Proof
end
